-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x1024 : Shape := ⟨2, ![1024, 1024]⟩
abbrev S16x256x1024 : Shape := ⟨3, ![16, 256, 1024]⟩
abbrev S3072x1024 : Shape := ⟨2, ![3072, 1024]⟩
abbrev S3x2 : Shape := ⟨2, ![3, 2]⟩
abbrev S_ : Shape := ⟨0, ![]⟩
abbrev S256x1024 : Shape := ⟨2, ![256, 1024]⟩
abbrev S1x256x1024 : Shape := ⟨3, ![1, 256, 1024]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S4096x1024, .f32⟩
  | .local _ .vmem, ⟨0, _⟩ => ⟨S4096x1024, .f32⟩
  | .local _ .vmem, ⟨1, _⟩ => ⟨S1024x1024, .f32⟩
  | .local _ .vmem, ⟨2, _⟩ => ⟨S1024x1024, .f32⟩
  | .local _ .vmem, ⟨3, _⟩ => ⟨S4096x1024, .f32⟩
  | .local _ .vmem, ⟨4, _⟩ => ⟨S16x256x1024, .bf16⟩
  | .local _ .vmem, ⟨5, _⟩ => ⟨S3072x1024, .bf16⟩
  | .local _ .vmem, ⟨6, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => false
  | ⟨1, _⟩ => true
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 2 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_11 : BitVec 32) (c0_i32_12 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v13 : BitVec 32 := Scalar.addi v2 c8_i32
  let c4_i32_10 : BitVec 32 := 4#32
  let v14 : BitVec 32 := Scalar.remsi v13 c4_i32_10
  let c1024_i32 : BitVec 32 := 1024#32
  let v15 : BitVec 32 := Scalar.muli v14 c1024_i32
  let v16 : BitVec 32 := Scalar.addi v15 c0_i32_11
  let v17 : BitVec 32 := Scalar.addi v16 c0_i32_12
  let v18 : Index := Scalar.indexCast v17
  let c0 : Index := 0#32
  ![v18.toNat, 0]
def k0_off2 (d0 : Dev nD) (c0_i32_18 : BitVec 32) (c0_i32_19 : BitVec 32) : Fin 3 → Nat :=
  let c4_i32_17 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_15 : BitVec 32 := 8#32
  let v25 : BitVec 32 := Scalar.addi v2 c8_i32_15
  let c4_i32_16 : BitVec 32 := 4#32
  let v26 : BitVec 32 := Scalar.remsi v25 c4_i32_16
  let v27 : BitVec 32 := Scalar.muli c4_i32_17 v26
  let v28 : BitVec 32 := Scalar.addi v27 c0_i32_18
  let v29 : BitVec 32 := Scalar.addi v28 c0_i32_19
  let v30 : Index := Scalar.indexCast v29
  let c0_20 : Index := 0#32
  let c0_21 : Index := 0#32
  ![v30.toNat, 0, 0]
def k0_off3 (d0 : Dev nD) (c0_i32_40 : BitVec 32) (c0_i32_41 : BitVec 32) : Fin 3 → Nat :=
  let c4_i32_39 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_37 : BitVec 32 := 8#32
  let v55 : BitVec 32 := Scalar.addi v2 c8_i32_37
  let c4_i32_38 : BitVec 32 := 4#32
  let v56 : BitVec 32 := Scalar.remsi v55 c4_i32_38
  let v57 : BitVec 32 := Scalar.muli c4_i32_39 v56
  let v58 : BitVec 32 := Scalar.addi v57 c0_i32_40
  let v59 : BitVec 32 := Scalar.addi v58 c0_i32_41
  let c0_i32_50 : BitVec 32 := 0#32
  let c0_i32_51 : BitVec 32 := 0#32
  ![v59.toNat, 0, 0]
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_46 : BitVec 32 := 1#32
  let v60 : BitVec 32 := Scalar.muli v7 c1_i32_46
  let v61 : BitVec 32 := Scalar.addi c0_i32_47 v60
  v61.toNat
def k0_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_61 : BitVec 32 := 1#32
  let v74 : BitVec 32 := Scalar.muli v5 c1_i32_61
  let v75 : BitVec 32 := Scalar.addi c0_i32_62 v74
  v75.toNat
def k0_dev5 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_107 : BitVec 32 := 1#32
  let v130 : BitVec 32 := Scalar.muli v7 c1_i32_107
  let v131 : BitVec 32 := Scalar.addi c0_i32_108 v130
  v131.toNat
def k0_dev6 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_122 : BitVec 32 := 1#32
  let v144 : BitVec 32 := Scalar.muli v5 c1_i32_122
  let v145 : BitVec 32 := Scalar.addi c0_i32_123 v144
  v145.toNat
def k0_off4 (d0 : Dev nD) (c0_i32_131 : BitVec 32) (c0_i32_132 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_127 : BitVec 32 := 1#32
  let v153 : BitVec 32 := Scalar.subi v2 c1_i32_127
  let c8_i32_128 : BitVec 32 := 8#32
  let v154 : BitVec 32 := Scalar.addi v153 c8_i32_128
  let c4_i32_129 : BitVec 32 := 4#32
  let v155 : BitVec 32 := Scalar.remsi v154 c4_i32_129
  let c1024_i32_130 : BitVec 32 := 1024#32
  let v156 : BitVec 32 := Scalar.muli v155 c1024_i32_130
  let v157 : BitVec 32 := Scalar.addi v156 c0_i32_131
  let v158 : BitVec 32 := Scalar.addi v157 c0_i32_132
  let v159 : Index := Scalar.indexCast v158
  let c0_133 : Index := 0#32
  ![v159.toNat, 0]
def k0_off5 (d0 : Dev nD) (c0_i32_140 : BitVec 32) (c0_i32_141 : BitVec 32) : Fin 3 → Nat :=
  let c4_i32_139 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_127 : BitVec 32 := 1#32
  let v153 : BitVec 32 := Scalar.subi v2 c1_i32_127
  let c8_i32_137 : BitVec 32 := 8#32
  let v166 : BitVec 32 := Scalar.addi v153 c8_i32_137
  let c4_i32_138 : BitVec 32 := 4#32
  let v167 : BitVec 32 := Scalar.remsi v166 c4_i32_138
  let v168 : BitVec 32 := Scalar.muli c4_i32_139 v167
  let v169 : BitVec 32 := Scalar.addi v168 c0_i32_140
  let v170 : BitVec 32 := Scalar.addi v169 c0_i32_141
  let v171 : Index := Scalar.indexCast v170
  let c0_142 : Index := 0#32
  let c0_143 : Index := 0#32
  ![v171.toNat, 0, 0]
def k0_off6 (d0 : Dev nD) (c1_i32_192 : BitVec 32) (c0_i32_196 : BitVec 32) (c0_i32_197 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v238 : BitVec 32 := Scalar.addi v2 c1_i32_192
  let c8_i32_193 : BitVec 32 := 8#32
  let v239 : BitVec 32 := Scalar.addi v238 c8_i32_193
  let c4_i32_194 : BitVec 32 := 4#32
  let v240 : BitVec 32 := Scalar.remsi v239 c4_i32_194
  let c1024_i32_195 : BitVec 32 := 1024#32
  let v241 : BitVec 32 := Scalar.muli v240 c1024_i32_195
  let v242 : BitVec 32 := Scalar.addi v241 c0_i32_196
  let v243 : BitVec 32 := Scalar.addi v242 c0_i32_197
  let v244 : Index := Scalar.indexCast v243
  let c0_198 : Index := 0#32
  ![v244.toNat, 0]
def k0_off7 (d0 : Dev nD) (c1_i32_192 : BitVec 32) (c0_i32_205 : BitVec 32) (c0_i32_206 : BitVec 32) : Fin 3 → Nat :=
  let c4_i32_204 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v238 : BitVec 32 := Scalar.addi v2 c1_i32_192
  let c8_i32_202 : BitVec 32 := 8#32
  let v251 : BitVec 32 := Scalar.addi v238 c8_i32_202
  let c4_i32_203 : BitVec 32 := 4#32
  let v252 : BitVec 32 := Scalar.remsi v251 c4_i32_203
  let v253 : BitVec 32 := Scalar.muli c4_i32_204 v252
  let v254 : BitVec 32 := Scalar.addi v253 c0_i32_205
  let v255 : BitVec 32 := Scalar.addi v254 c0_i32_206
  let v256 : Index := Scalar.indexCast v255
  let c0_207 : Index := 0#32
  let c0_208 : Index := 0#32
  ![v256.toNat, 0, 0]
def k0_off8 (d0 : Dev nD) (c0_i32_274 : BitVec 32) (c0_i32_279 : BitVec 32) : Fin 3 → Nat :=
  let c4_i32_277 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_273 : BitVec 32 := 1#32
  let v337 : BitVec 32 := Scalar.subi v2 c1_i32_273
  let v338 : BitVec 32 := Scalar.subi v337 c0_i32_274
  let c8_i32_275 : BitVec 32 := 8#32
  let v339 : BitVec 32 := Scalar.addi v338 c8_i32_275
  let c4_i32_276 : BitVec 32 := 4#32
  let v340 : BitVec 32 := Scalar.remsi v339 c4_i32_276
  let v341 : BitVec 32 := Scalar.muli c4_i32_277 v340
  let c0_i32_278 : BitVec 32 := 0#32
  let v342 : BitVec 32 := Scalar.addi v341 c0_i32_278
  let v343 : BitVec 32 := Scalar.addi v342 c0_i32_279
  let v344 : Index := Scalar.indexCast v343
  let c0_280 : Index := 0#32
  let c0_281 : Index := 0#32
  ![v344.toNat, 0, 0]
def k0_dev7 (d0 : Dev nD) : Nat :=
  let c0_i32_289 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_288 : BitVec 32 := 1#32
  let v351 : BitVec 32 := Scalar.muli v7 c1_i32_288
  let v352 : BitVec 32 := Scalar.addi c0_i32_289 v351
  v352.toNat
def k0_off9 (d0 : Dev nD) (c0_i32_306 : BitVec 32) (c0_i32_311 : BitVec 32) : Fin 3 → Nat :=
  let c4_i32_309 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_305 : BitVec 32 := 1#32
  let v367 : BitVec 32 := Scalar.addi v2 c1_i32_305
  let v368 : BitVec 32 := Scalar.addi v367 c0_i32_306
  let c8_i32_307 : BitVec 32 := 8#32
  let v369 : BitVec 32 := Scalar.addi v368 c8_i32_307
  let c4_i32_308 : BitVec 32 := 4#32
  let v370 : BitVec 32 := Scalar.remsi v369 c4_i32_308
  let v371 : BitVec 32 := Scalar.muli c4_i32_309 v370
  let c2_i32_310 : BitVec 32 := 2#32
  let v372 : BitVec 32 := Scalar.addi v371 c2_i32_310
  let v373 : BitVec 32 := Scalar.addi v372 c0_i32_311
  let v374 : Index := Scalar.indexCast v373
  let c0_312 : Index := 0#32
  let c0_313 : Index := 0#32
  ![v374.toNat, 0, 0]
def k0_dev8 (d0 : Dev nD) : Nat :=
  let c0_i32_321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_320 : BitVec 32 := 1#32
  let v381 : BitVec 32 := Scalar.muli v5 c1_i32_320
  let v382 : BitVec 32 := Scalar.addi c0_i32_321 v381
  v382.toNat
def k0_dev9 (d0 : Dev nD) : Nat :=
  let c0_i32_352 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_351 : BitVec 32 := 1#32
  let v411 : BitVec 32 := Scalar.muli v7 c1_i32_351
  let v412 : BitVec 32 := Scalar.addi c0_i32_352 v411
  v412.toNat
def k0_dev10 (d0 : Dev nD) : Nat :=
  let c0_i32_383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_382 : BitVec 32 := 1#32
  let v441 : BitVec 32 := Scalar.muli v5 c1_i32_382
  let v442 : BitVec 32 := Scalar.addi c0_i32_383 v441
  v442.toNat
def k0_dev11 (d0 : Dev nD) : Nat :=
  let c0_i32_479 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_478 : BitVec 32 := 1#32
  let v555 : BitVec 32 := Scalar.muli v7 c1_i32_478
  let v556 : BitVec 32 := Scalar.addi c0_i32_479 v555
  v556.toNat
def k0_dev12 (d0 : Dev nD) : Nat :=
  let c0_i32_510 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_509 : BitVec 32 := 1#32
  let v584 : BitVec 32 := Scalar.muli v5 c1_i32_509
  let v585 : BitVec 32 := Scalar.addi c0_i32_510 v584
  v585.toNat
def k0_dev13 (d0 : Dev nD) : Nat :=
  let c0_i32_541 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_540 : BitVec 32 := 1#32
  let v613 : BitVec 32 := Scalar.muli v7 c1_i32_540
  let v614 : BitVec 32 := Scalar.addi c0_i32_541 v613
  v614.toNat
def k0_dev14 (d0 : Dev nD) : Nat :=
  let c0_i32_572 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_571 : BitVec 32 := 1#32
  let v642 : BitVec 32 := Scalar.muli v5 c1_i32_571
  let v643 : BitVec 32 := Scalar.addi c0_i32_572 v642
  v643.toNat
def k0_off10 (d0 : Dev nD) (c0_i32_598 : BitVec 32) (c0_i32_603 : BitVec 32) : Fin 3 → Nat :=
  let c4_i32_601 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_597 : BitVec 32 := 1#32
  let v671 : BitVec 32 := Scalar.addi v2 c1_i32_597
  let v672 : BitVec 32 := Scalar.subi v671 c0_i32_598
  let c8_i32_599 : BitVec 32 := 8#32
  let v673 : BitVec 32 := Scalar.addi v672 c8_i32_599
  let c4_i32_600 : BitVec 32 := 4#32
  let v674 : BitVec 32 := Scalar.remsi v673 c4_i32_600
  let v675 : BitVec 32 := Scalar.muli c4_i32_601 v674
  let c0_i32_602 : BitVec 32 := 0#32
  let v676 : BitVec 32 := Scalar.addi v675 c0_i32_602
  let v677 : BitVec 32 := Scalar.addi v676 c0_i32_603
  let c0_i32_610 : BitVec 32 := 0#32
  let c0_i32_611 : BitVec 32 := 0#32
  ![v677.toNat, 0, 0]
def k0_dev15 (d0 : Dev nD) : Nat :=
  let c0_i32_609 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_608 : BitVec 32 := 1#32
  let v678 : BitVec 32 := Scalar.muli v7 c1_i32_608
  let v679 : BitVec 32 := Scalar.addi c0_i32_609 v678
  v679.toNat
def k0_off11 (d0 : Dev nD) (c0_i32_636 : BitVec 32) (c0_i32_641 : BitVec 32) : Fin 3 → Nat :=
  let c4_i32_639 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_635 : BitVec 32 := 1#32
  let v709 : BitVec 32 := Scalar.subi v2 c1_i32_635
  let v710 : BitVec 32 := Scalar.addi v709 c0_i32_636
  let c8_i32_637 : BitVec 32 := 8#32
  let v711 : BitVec 32 := Scalar.addi v710 c8_i32_637
  let c4_i32_638 : BitVec 32 := 4#32
  let v712 : BitVec 32 := Scalar.remsi v711 c4_i32_638
  let v713 : BitVec 32 := Scalar.muli c4_i32_639 v712
  let c2_i32_640 : BitVec 32 := 2#32
  let v714 : BitVec 32 := Scalar.addi v713 c2_i32_640
  let v715 : BitVec 32 := Scalar.addi v714 c0_i32_641
  let c0_i32_648 : BitVec 32 := 0#32
  let c0_i32_649 : BitVec 32 := 0#32
  ![v715.toNat, 0, 0]
def k0_dev16 (d0 : Dev nD) : Nat :=
  let c0_i32_647 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_646 : BitVec 32 := 1#32
  let v716 : BitVec 32 := Scalar.muli v5 c1_i32_646
  let v717 : BitVec 32 := Scalar.addi c0_i32_647 v716
  v717.toNat
def k0_dev17 (d0 : Dev nD) : Nat :=
  let c0_i32_685 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_684 : BitVec 32 := 1#32
  let v754 : BitVec 32 := Scalar.muli v7 c1_i32_684
  let v755 : BitVec 32 := Scalar.addi c0_i32_685 v754
  v755.toNat
def k0_dev18 (d0 : Dev nD) : Nat :=
  let c0_i32_723 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_722 : BitVec 32 := 1#32
  let v792 : BitVec 32 := Scalar.muli v5 c1_i32_722
  let v793 : BitVec 32 := Scalar.addi c0_i32_723 v792
  v793.toNat
def k0_dev19 (d0 : Dev nD) : Nat :=
  let c0_i32_858 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_857 : BitVec 32 := 1#32
  let v869 : BitVec 32 := Scalar.muli v7 c1_i32_857
  let v870 : BitVec 32 := Scalar.addi c0_i32_858 v869
  v870.toNat
def k0_dev20 (d0 : Dev nD) : Nat :=
  let c0_i32_885 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_884 : BitVec 32 := 1#32
  let v894 : BitVec 32 := Scalar.muli v5 c1_i32_884
  let v895 : BitVec 32 := Scalar.addi c0_i32_885 v894
  v895.toNat
def k0_dev21 (d0 : Dev nD) : Nat :=
  let c0_i32_912 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_911 : BitVec 32 := 1#32
  let v919 : BitVec 32 := Scalar.muli v7 c1_i32_911
  let v920 : BitVec 32 := Scalar.addi c0_i32_912 v919
  v920.toNat
def k0_dev22 (d0 : Dev nD) : Nat :=
  let c0_i32_939 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_938 : BitVec 32 := 1#32
  let v944 : BitVec 32 := Scalar.muli v5 c1_i32_938
  let v945 : BitVec 32 := Scalar.addi c0_i32_939 v944
  v945.toNat
def k0_dev23 (d0 : Dev nD) : Nat :=
  let c0_i32_1030 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1029 : BitVec 32 := 1#32
  let v1037 : BitVec 32 := Scalar.muli v7 c1_i32_1029
  let v1038 : BitVec 32 := Scalar.addi c0_i32_1030 v1037
  v1038.toNat
def k0_dev24 (d0 : Dev nD) : Nat :=
  let c0_i32_1057 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1056 : BitVec 32 := 1#32
  let v1062 : BitVec 32 := Scalar.muli v5 c1_i32_1056
  let v1063 : BitVec 32 := Scalar.addi c0_i32_1057 v1062
  v1063.toNat
def k0_dev25 (d0 : Dev nD) : Nat :=
  let c0_i32_1084 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1083 : BitVec 32 := 1#32
  let v1087 : BitVec 32 := Scalar.muli v7 c1_i32_1083
  let v1088 : BitVec 32 := Scalar.addi c0_i32_1084 v1087
  v1088.toNat
def k0_dev26 (d0 : Dev nD) : Nat :=
  let c0_i32_1111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1110 : BitVec 32 := 1#32
  let v1112 : BitVec 32 := Scalar.muli v5 c1_i32_1110
  let v1113 : BitVec 32 := Scalar.addi c0_i32_1111 v1112
  v1113.toNat
def k0_dev27 (d0 : Dev nD) : Nat :=
  let c0_i32_1464_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1463_r0 : BitVec 32 := 1#32
  let v1437_r0 : BitVec 32 := Scalar.muli v5 c1_i32_1463_r0
  let v1438_r0 : BitVec 32 := Scalar.addi c0_i32_1464_r0 v1437_r0
  v1438_r0.toNat
def k0_dev28 (d0 : Dev nD) : Nat :=
  let c0_i32_1467_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1466_r0 : BitVec 32 := 1#32
  let v1439_r0 : BitVec 32 := Scalar.muli v7 c1_i32_1466_r0
  let v1440_r0 : BitVec 32 := Scalar.addi c0_i32_1467_r0 v1439_r0
  v1440_r0.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x1024 : Shape := ⟨2, ![4096, 1024]⟩
abbrev S1024x4096 : Shape := ⟨2, ![1024, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Proto.lean ====
/-
# The ring protocol of the two-matmul kernel

Four devices in a ring. Each holds one chunk of the contraction, and the kernel sums the partial products of the
first matmul round the ring, chunk by chunk in two directions, then sends the finished chunks round once more.
This file names the ring, the semaphore cells, the contents that travel, what each cell's signal hands over, and
what each device owes at each point of its run.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Duplex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

abbrev 𝒱₀ : Variants := Variants.none

/-! ## The ring, walked in direction `d` -/

set_option backward.proofsInPublic true in
/-- The device that `c` sends to in direction `d`. -/
def nx (d : Fin 2) (c : Dev nD) : Dev nD := ⟨(c.val + 1 + 2 * d.val) % 4, Nat.mod_lt _ (by decide)⟩
set_option backward.proofsInPublic true in
/-- The chunk `j` places behind `c` in direction `d`. -/
def ch (d : Fin 2) (c : Dev nD) (j : ℕ) : Fin 4 := ⟨(c.val + (3 + 2 * d.val) * j) % 4, Nat.mod_lt _ (by decide)⟩
set_option backward.proofsInPublic true in
/-- The device `i` places after chunk `k`'s first one. -/
def nxi (d : Fin 2) (k : Fin 4) (i : ℕ) : Dev nD := ⟨(k.val + (1 + 2 * d.val) * i) % 4, Nat.mod_lt _ (by decide)⟩

theorem nxi_ch (d : Fin 2) (c : Dev nD) (j : Fin 4) : nxi d (ch d c j.val) j.val = c := by revert d c j; decide
theorem nxi_zero (d : Fin 2) (k : Fin 4) : nxi d k 0 = k := by revert d k; decide
theorem ch_nx (d : Fin 2) (c : Dev nD) (j : Fin 3) : ch d (nx d c) (j.val + 1) = ch d c j.val := by revert d c j; decide

/-! ## The cells -/

/-- A transfer: phase (sum or spread), direction, step, half. -/
abbrev XT : Type := Fin 2 × Fin 2 × Fin 3 × Fin 2
/-- A semaphore of the protocol: the entry handshake's, the exit's, or a transfer's at its sender (0) or its receiver (1). -/
abbrev CK : Type := Fin 2 ⊕ (Fin 2 × XT)

instance decEqXT : DecidableEq XT := instDecidableEqProd
instance decEqCK : DecidableEq CK := instDecidableEqSum
instance decEqDCK : DecidableEq (Dev nD × CK) := instDecidableEqProd
instance decEqPay : DecidableEq (Fin 2 × CK) := instDecidableEqProd

abbrev barS : Sem sig := (SemArray.scalar (sig.barrier 0 rfl) : Sems sig S_).sem
abbrev finS : Sem sig := (cc0_scoped0 : Sems sig S_).sem
set_option backward.proofsInPublic true in
def xsem (b : Fin 2) (x : XT) : DmaSem sig :=
  (⟨4 + 24 * x.1.val + 12 * x.2.1.val + 6 * b.val + 2 * x.2.2.1.val + x.2.2.2.val, by omega⟩ : Fin 52)

def csem : CK → SemLoc sig
  | .inl 0 => .reg barS
  | .inl 1 => .reg finS
  | .inr (b, x) => .dma (xsem b x)

set_option backward.proofsInPublic true in
/-- The protocol's name for a semaphore of the program, where it has one. -/
def dec : SemLoc sig → Option CK
  | .reg s => if s = barS then some (.inl 0) else if s = finS then some (.inl 1) else none
  | .dma q => if (q : Fin 52).val < 4 then none else
      some (.inr (⟨((q : Fin 52).val - 4) / 6 % 2, Nat.mod_lt _ (by decide)⟩,
        (⟨((q : Fin 52).val - 4) / 24 % 2, Nat.mod_lt _ (by decide)⟩, ⟨((q : Fin 52).val - 4) / 12 % 2, Nat.mod_lt _ (by decide)⟩,
          ⟨((q : Fin 52).val - 4) % 6 / 2 % 3, Nat.mod_lt _ (by decide)⟩, ⟨((q : Fin 52).val - 4) % 2, Nat.mod_lt _ (by decide)⟩)))

theorem dec_csem (k : CK) : dec (csem k) = some k := by revert k; decide +kernel
theorem csem_inj : Function.Injective csem := fun a b h => Option.some.inj ((dec_csem a).symm.trans ((congrArg dec h).trans (dec_csem b)))

abbrev kcell (p : Dev nD × CK) : GSem nD τ sig := ((p.1 : Thread nD τ), csem p.2)

abbrev snd (c : Dev nD) (x : XT) : GSem nD τ sig := kcell (c, .inr (0, x))
abbrev rcv (c : Dev nD) (x : XT) : GSem nD τ sig := kcell (c, .inr (1, x))

/-! ## The pieces of the buffers -/

abbrev xM : Memref sig .tc .vmem S4096x1024 .f32 := Memref.whole cc0_stg0_0
abbrev w1M : Memref sig .tc .vmem S1024x1024 .f32 := Memref.whole cc0_stg1_0
abbrev w2M : Memref sig .tc .vmem S1024x1024 .f32 := Memref.whole cc0_stg2_0
abbrev oM : Memref sig .tc .vmem S4096x1024 .f32 := Memref.whole cc0_stg3_0
abbrev hM : Memref sig .tc .vmem S16x256x1024 .bf16 := Memref.whole cc0_scratch0
abbrev rM : Memref sig .tc .vmem S3072x1024 .bf16 := Memref.whole cc0_scratch1
abbrev w2bM : Memref sig .tc .vmem S1024x1024 .bf16 := Memref.whole cc0_scratch2

def hoff (k : Fin 4) (d q : Fin 2) : Fin 3 → Nat := ![4 * k.val + 2 * d.val + q.val, 0, 0]
def roff (s : Fin 3) (d q : Fin 2) : Fin 2 → Nat := ![1024 * s.val + 512 * d.val + 256 * q.val, 0]
def xoff (k : Fin 4) (d q : Fin 2) : Fin 2 → Nat := ![1024 * k.val + 512 * d.val + 256 * q.val, 0]

theorem hoff_inb (k : Fin 4) (d q : Fin 2) : ∀ a, hoff k d q a + S1x256x1024.size a ≤ S16x256x1024.size a := by
  revert k d q; decide +kernel
theorem roff_inb (s : Fin 3) (d q : Fin 2) : ∀ a, roff s d q a + S256x1024.size a ≤ S3072x1024.size a := by
  revert s d q; decide +kernel
theorem xoff_inb (k : Fin 4) (d q : Fin 2) : ∀ a, xoff k d q a + S256x1024.size a ≤ S4096x1024.size a := by
  revert k d q; decide +kernel

/-- The rectangles of the chunks' slots, of the landing regions, and of the rows of `x` and of the result. -/
abbrev hrect (k : Fin 4) (d q : Fin 2) : Rect S16x256x1024 := Rect.unit (s := S16x256x1024) (hoff k d q) S1x256x1024.size (hoff_inb k d q)
abbrev rrect (s : Fin 3) (d q : Fin 2) : Rect S3072x1024 := Rect.unit (s := S3072x1024) (roff s d q) S256x1024.size (roff_inb s d q)
abbrev xrect (k : Fin 4) (d q : Fin 2) : Rect S4096x1024 := Rect.unit (s := S4096x1024) (xoff k d q) S256x1024.size (xoff_inb k d q)

abbrev hmem (k : Fin 4) (d q : Fin 2) : Memref sig .tc .vmem S1x256x1024 .bf16 := hM.slice (hrect k d q) (fun _ => rfl)
abbrev rmem (s : Fin 3) (d q : Fin 2) : Memref sig .tc .vmem S256x1024 .bf16 := rM.slice (rrect s d q) (fun _ => rfl)
abbrev omem (k : Fin 4) (d q : Fin 2) : Memref sig .tc .vmem S256x1024 .f32 := oM.slice (xrect k d q) (fun _ => rfl)

/-- One transfer's credit. -/
abbrev N : ℕ := (rmem 0 0 0).view.dmaCredit
theorem N_pos : 0 < N := View.dmaCredit_pos _ (by decide)

/-- A block as a slot of the chunk buffer holds it. -/
abbrev up (v : FVec F S256x1024 .bf16) : FVec F S1x256x1024 .bf16 := k0_pay2 v

def hP (c : Dev nD) (k : Fin 4) (d q : Fin 2) (sh : PosShare TreeShare) (v : FVec F S256x1024 .bf16) : sProp 𝕄 :=
  owns (c : Thread nD τ) (hmem k d q) sh (up v)
def hA (c : Dev nD) (k : Fin 4) (d q : Fin 2) : sProp 𝕄 :=
  iprop(∃ X : S1x256x1024.Idx → Elt F .bf16, owns (c : Thread nD τ) (hmem k d q) fullShare X)
def rP (c : Dev nD) (d q : Fin 2) (s : Fin 3) (v : FVec F S256x1024 .bf16) : sProp 𝕄 :=
  owns (c : Thread nD τ) (rmem s d q) fullShare v
def rA (c : Dev nD) (d q : Fin 2) (s : Fin 3) : sProp 𝕄 :=
  iprop(∃ X : S256x1024.Idx → Elt F .bf16, owns (c : Thread nD τ) (rmem s d q) fullShare X)
def oP (c : Dev nD) (k : Fin 4) (d q : Fin 2) (v : FVec F S256x1024 .f32) : sProp 𝕄 :=
  owns (c : Thread nD τ) (omem k d q) fullShare v
def oA (c : Dev nD) (k : Fin 4) (d q : Fin 2) : sProp 𝕄 :=
  iprop(∃ X : S256x1024.Idx → Elt F .f32, owns (c : Thread nD τ) (omem k d q) fullShare X)

/-! ## Contents -/

def xstg (c : Dev nD) : (cc0_stg0_0 : Ref sig .tc).ty.Contents (Elt F) :=
  (win0_0.blk (0 : Fin 1)).view.read (Elt F) (m ((c : Thread nD τ).loc main_arg0))
def w1stg (c : Dev nD) : (cc0_stg1_0 : Ref sig .tc).ty.Contents (Elt F) :=
  (win0_1.blk (0 : Fin 1)).view.read (Elt F) (m ((c : Thread nD τ).loc main_arg1))
def w2stg (c : Dev nD) : (cc0_stg2_0 : Ref sig .tc).ty.Contents (Elt F) :=
  (win0_2.blk (0 : Fin 1)).view.read (Elt F) (m ((c : Thread nD τ).loc main_arg2))

/-- The rows of `x` of one piece. -/
def xr (c : Dev nD) (k : Fin 4) (d q : Fin 2) : FVec F S256x1024 .f32 := xM.view.readAt (Elt F) (xrect k d q).toLoadRect (xstg m c)
/-- A device's partial product of the first matmul, rounded, for one piece. -/
def gp (c : Dev nD) (k : Fin 4) (d q : Fin 2) : FVec F S256x1024 .bf16 := k0_pay1 (xr m c k d q) (w1stg m c)
/-- The partial products of `n + 1` devices, added in the order of the ring. -/
def acc (d : Fin 2) (k : Fin 4) (q : Fin 2) : ℕ → FVec F S256x1024 .bf16
  | 0 => gp m (nxi d k 0) k d q
  | n + 1 => addf (acc d k q n) (gp m (nxi d k (n + 1)) k d q)
/-- `W2` as the second matmul reads it. -/
def w2b (c : Dev nD) : FVec F S1024x1024 .bf16 := k0_pay18 (w2stg m c)
/-- One piece of the result. -/
def outp (c : Dev nD) (k : Fin 4) (d q : Fin 2) : FVec F S256x1024 .f32 :=
  k0_pay42 (acc m d k q 3) (w2b m c) (constant S256x1024 .f32 0)

/-! ## What each signal hands over -/

/-- The chunk's slots that travel beside the sum: those of the devices already passed. -/
def held (d : Fin 2) (k : Fin 4) (q : Fin 2) : ℕ → sProp 𝕄
  | 0 => hA (F := F) (nxi d k 0) k d q
  | n + 1 => iprop(held d k q n ∗ hA (nxi d k (n + 1)) k d q)

/-- The slots still to be filled when the finished chunk has made `t` steps. -/
def rest (d : Fin 2) (k : Fin 4) (q : Fin 2) : ℕ → sProp 𝕄
  | 0 => iprop(hA (F := F) (nxi d k 1) k d q ∗ hA (nxi d k 2) k d q)
  | 1 => hA (nxi d k 2) k d q
  | _ => iprop(emp)

/-- All the landing regions of direction `d` of one device. -/
def regions (c : Dev nD) (d : Fin 2) : sProp 𝕄 :=
  iprop(rA (F := F) c d 0 0 ∗ rA c d 1 0 ∗ rA c d 0 1 ∗ rA c d 1 1 ∗ rA c d 0 2 ∗ rA c d 1 2)

def payS (c : Dev nD) : XT → sProp 𝕄
  | (0, d, 0, q) => iprop(emp)
  | (0, d, 1, q) => rA (F := F) c d q 0
  | (0, d, 2, q) => rA (F := F) c d q 1
  | (1, d, t, q) => hP c (ch d c (t.val + 3)) d q fullShare.left (acc m d (ch d c (t.val + 3)) q 3)
def payR (c : Dev nD) : XT → sProp 𝕄
  | (0, d, s, q) => iprop(rP c d q s (acc m d (ch d c (s.val + 1)) q s.val) ∗ held d (ch d c (s.val + 1)) q s.val)
  | (1, d, t, q) => iprop(hP c (ch d c t.val) d q fullShare (acc m d (ch d c t.val) q 3) ∗ rest d (ch d c t.val) q t.val)

def payOf (c : Dev nD) : CK → Fin 2 → sProp 𝕄
  | .inl 0, e => regions (F := F) (nx e c) e
  | .inl 1, e => iprop(emp)
  | .inr (0, x), _ => payS m c x
  | .inr (1, x), _ => payR m c x

instance hP_storable (c : Dev nD) (k d q sh v) : BI.Storable (upEmb : UEmb _ 𝕄) (hP (F := F) c k d q sh v) := by unfold hP owns; infer_instance
instance hA_storable (c : Dev nD) (k d q) : BI.Storable (upEmb : UEmb _ 𝕄) (hA (F := F) c k d q) := by unfold hA owns; infer_instance
instance rP_storable (c : Dev nD) (d q s v) : BI.Storable (upEmb : UEmb _ 𝕄) (rP (F := F) c d q s v) := by unfold rP owns; infer_instance
instance rA_storable (c : Dev nD) (d q s) : BI.Storable (upEmb : UEmb _ 𝕄) (rA (F := F) c d q s) := by unfold rA owns; infer_instance
instance held_storable (d k q n) : BI.Storable (upEmb : UEmb _ 𝕄) (held (F := F) d k q n) := by
  induction n with
  | zero => unfold held; infer_instance
  | succ n ih => unfold held; infer_instance
instance rest_storable (d k q) (n : ℕ) : BI.Storable (upEmb : UEmb _ 𝕄) (rest (F := F) d k q n) := by
  unfold rest; split <;> infer_instance
instance regions_storable (c d) : BI.Storable (upEmb : UEmb _ 𝕄) (regions (F := F) c d) := by unfold regions; infer_instance
instance payS_storable (c x) : BI.Storable (upEmb : UEmb _ 𝕄) (payS (F := F) m c x) := by unfold payS; split <;> infer_instance
instance payR_storable (c x) : BI.Storable (upEmb : UEmb _ 𝕄) (payR (F := F) m c x) := by unfold payR; split <;> infer_instance
instance payOf_storable (c k e) : BI.Storable (upEmb : UEmb _ 𝕄) (payOf (F := F) m c k e) := by unfold payOf; split <;> infer_instance

/-! ## The schedule -/

/-- The duties of a cell: two of one unit each at a handshake's, one of a block's credit at a transfer's. -/
def duN : CK → Finset (Fin 2)
  | .inl _ => Finset.univ
  | .inr _ => {0}
def amt : CK → ℕ
  | .inl _ => 1
  | .inr _ => N
def tot : CK → ℕ
  | .inl _ => 2
  | .inr _ => N
theorem amt_pos (k : CK) : 0 < amt k := by
  rcases k with k | k
  · exact Nat.one_pos
  · exact N_pos

def rd : Rounds.Schedule (GSem nD τ sig) (Fin 2) 𝕄 where
  duties g r := if r = 0 ∧ g.1.2 = .tc then (dec g.2).elim ∅ duN else ∅
  unitless _ := False
  amount g _ _ := (dec g.2).elim 1 amt
  payload g _ e := (dec g.2).elim iprop(emp) fun k => payOf m g.1.1 k e
  amount_pos g _ _ _ := by
    cases dec g.2 with
    | none => exact Nat.one_pos
    | some k => exact amt_pos k

instance rd_payload_storable (g : GSem nD τ sig) (r : ℕ) (e : Fin 2) :
    BI.Storable (upEmb : UEmb _ 𝕄) ((rd (F := F) m).payload g r e) := by
  show BI.Storable upEmb ((dec g.2).elim iprop(emp) fun k => payOf m g.1.1 k e)
  cases dec g.2 <;> (dsimp only [Option.elim]; infer_instance)

theorem duties_eq (p : Dev nD × CK) : (rd (F := F) m).duties (kcell p) 0 = duN p.2 := by
  show (if (0 : ℕ) = 0 ∧ (kcell p).1.2 = .tc then (dec (csem p.2)).elim ∅ duN else ∅) = _
  rw [if_pos ⟨rfl, rfl⟩, dec_csem]; rfl
theorem duties_later (g : GSem nD τ sig) : ∀ r, 1 ≤ r → (rd (F := F) m).duties g r = ∅ :=
  fun r hr => if_neg fun h => by omega
theorem amount_eq (p : Dev nD × CK) (r : ℕ) (e : Fin 2) : (rd (F := F) m).amount (kcell p) r e = amt p.2 := by
  show (dec (csem p.2)).elim 1 amt = _
  rw [dec_csem]; rfl
theorem payload_eq (p : Dev nD × CK) (r : ℕ) (e : Fin 2) : (rd (F := F) m).payload (kcell p) r e = payOf m p.1 p.2 e := by
  show (dec (csem p.2)).elim iprop(emp) (fun k => payOf m p.1 k e) = _
  rw [dec_csem]; rfl
theorem expect_eq (p : Dev nD × CK) : (rd (F := F) m).expect (kcell p) 0 = tot p.2 := by
  unfold Schedule.expect Schedule.amountOf
  rw [duties_eq, Finset.sum_congr rfl fun e _ => amount_eq m p 0 e]
  obtain ⟨c, k | k⟩ := p
  · rfl
  · exact Finset.sum_singleton _ _
theorem pay_rest_x (c : Dev nD) (b : Fin 2) (x : XT) :
    bigSep ((rd (F := F) m).duties (kcell (c, .inr (b, x))) 0 \ ∅) (fun e => (rd (F := F) m).payload (kcell (c, .inr (b, x))) 0 e)
      = payOf m c (.inr (b, x)) 0 := by
  rw [Finset.sdiff_empty, duties_eq]
  show bigSep {0} _ = _
  rw [bigSep_singleton, payload_eq]
theorem pay_rest_r (c : Dev nD) (i : Fin 2) :
    bigSep ((rd (F := F) m).duties (kcell (c, .inl i)) 0 \ ∅) (fun e => (rd (F := F) m).payload (kcell (c, .inl i)) 0 e)
      = iprop(payOf m c (.inl i) 0 ∗ payOf m c (.inl i) 1) := by
  rw [Finset.sdiff_empty, duties_eq]
  show bigSep Finset.univ _ = _
  rw [bigSep_univ_eq_bigSepL [0, 1] (by decide) (by decide), bigSepL_cons_cons, bigSepL_singleton, payload_eq, payload_eq]
  rfl

/-! ## Levels, and what a device owes -/

set_option backward.proofsInPublic true in
def lvK : CK → ℕ
  | .inl 0 => 1
  | .inl 1 => 8
  | .inr (0, _) => 0
  | .inr (1, (ag, _, s, _)) => 2 + 3 * ag.val + s.val
def lvS (sm : SemLoc sig) : ℕ := (dec sm).elim 0 lvK

def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- A device's payments in the order in which it makes them: the direction it pays in, and the cell paid there. -/
def pays : List (Fin 2 × CK) :=
  [(1, .inl 0), (0, .inl 0)]
    ++ (List.finRange 6).flatMap (fun i => [((0 : Fin 2), (0 : Fin 2)), (1, 0), (0, 1), (1, 1)].map fun p =>
        (p.1, .inr (1, (⟨i.val / 3, by omega⟩, p.1, ⟨i.val % 3, by omega⟩, p.2))))
    ++ [(1, .inl 1), (0, .inl 1)]

def oweL (c : Dev nD) : List (Fin 2 × CK) → CellTallies nD τ sig Unit
  | [] => 0
  | p :: l => oweL c l + tallyAt (kcell (nx p.1 c, p.2)) () (amt p.2)

theorem oweL_pos (c : Dev nD) (l : List (Fin 2 × CK)) {g : GSem nD τ sig} {u : Unit} (h : 0 < oweL c l g u) :
    ∃ p ∈ l, g = kcell (nx p.1 c, p.2) := by
  induction l with
  | nil => exact absurd h (Nat.lt_irrefl 0)
  | cons p l ih =>
    unfold oweL at h
    rw [Pi.add_apply, Finsupp.add_apply, tallyAt_apply] at h
    by_cases hp : g = kcell (nx p.1 c, p.2) ∧ u = ()
    · exact ⟨p, List.mem_cons_self, hp.1⟩
    · rw [if_neg hp] at h
      obtain ⟨p', hm, e⟩ := ih h
      exact ⟨p', List.mem_cons_of_mem _ hm, e⟩

/-- A device may wait on a cell that is below everything it still owes. -/
theorem mayWait (c : Dev nD) (sm : SemLoc sig) (l : List (Fin 2 × CK)) (h : ∀ p ∈ l, lvS sm < lvK p.2) :
    (levAts L lv : sProp 𝕄) ⊢ MayWait (c : Thread nD τ) sm () (oweL c l) :=
  MayOwe.of_cut (L := L) (lev := lv) (lvS sm) (fun p hp => by rw [Finset.mem_singleton.mp hp, L_tc]; exact Finset.mem_singleton_self _)
    (fun g u hg => by obtain ⟨p, _, rfl⟩ := oweL_pos c l hg; exact Finset.mem_singleton_self _)
    (fun p hp => by rw [Finset.mem_singleton.mp hp]; exact le_refl _)
    (fun g u hg => by
      obtain ⟨p, hp, rfl⟩ := oweL_pos c l hg
      show lvS sm < (dec (csem p.2)).elim 0 lvK
      rw [dec_csem]; exact h p hp)

/-- What device `c` still owes after its first `n` payments. -/
def owd (c : Dev nD) (n : ℕ) : sProp 𝕄 := iprop(∃ W, owes (c : Thread nD τ) (oweL c (pays.drop n)) W)

/-! ## The facts that every device shares -/

variable (K : Dev nD × CK → ℕ)

def records : sProp 𝕄 :=
  bigSep Finset.univ fun p : Dev nD × CK => iprop(cellInv ER (rd (F := F) m) (K p) (kcell p) ∗ reached ER (kcell p) 0)
instance records_persistent : BI.Persistent (records (F := F) m K) := by unfold records; infer_instance
def ctx : sProp 𝕄 := iprop(records (F := F) m K ∗ levAts L lv)
instance ctx_persistent : BI.Persistent (ctx (F := F) m K) := by unfold ctx; infer_instance

theorem ctx_inv (p : Dev nD × CK) : ctx (F := F) m K ⊢ iprop(cellInv ER (rd (F := F) m) (K p) (kcell p) ∗ reached ER (kcell p) 0) := by
  have h : records (F := F) m K ⊢ iprop(cellInv ER (rd (F := F) m) (K p) (kcell p) ∗ reached ER (kcell p) 0) :=
    bigSep_elim (Finset.mem_univ p)
  unfold ctx
  iintro ⟨H, -⟩
  iapply h $$ H
theorem ctx_lev : ctx (F := F) m K ⊢ levAts L lv := by
  unfold ctx; iintro ⟨-, H⟩; iexact H

/-- What a device needs for one transfer that it sends: the two duties and its place at its own sender's cell. -/
def SB (c : Dev nD) (x : XT) : sProp 𝕄 :=
  iprop(dutyTok ER (snd c x) 0 0 ∗ dutyTok ER (rcv (nx x.2.1 c) x) 0 0 ∗ atPos ER (snd c x) 0 ∅ 0)
/-- What a device needs to wait on one of its transfer cells. -/
def WT (c : Dev nD) (b : Fin 2) (x : XT) : sProp 𝕄 :=
  iprop(atPos ER (kcell (c, .inr (b, x))) 0 ∅ 0 ∗ cred (tallyAt (kcell (c, .inr (b, x))) () N))

/-- The counters already returned, at zero. -/
def Zs (c : Dev nD) : List CK → sProp 𝕄
  | [] => iprop(emp)
  | k :: l => iprop(semVal (kcell (c, k)) 0 ∗ Zs c l)

end Cert.Duplex
-- ==== Proof.Steps.lean ====
/-
# One rule per kind of operation

The kernel's body repeats a few kinds of operation: a signal or wait of the two handshakes, a transfer of the sum or of
a finished chunk, a wait for a transfer, a load or a store of one piece of a buffer. Each is stated once here, for any
device, direction, step and half; the body's walk applies them.
-/
module

public import proofs.«01_k».proof.Proof.Proto

@[expose] public section

noncomputable section

namespace Cert.Duplex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CK → ℕ)

/-- A core's run of a program, to be shown to end in `Kt`. -/
abbrev run (c : Dev nD) {α : Type} (p : Prog (TpuEff nD τ sig (Elt F) Λ₀ .tc) α) (Kt : α → sProp 𝕄) : sProp 𝕄 :=
  wp frame (wpE (defs₀ (F := F)) 𝒱₀ (c : Thread nD τ) none) Set.univ p Kt

variable {α : Type} {Kt : α → sProp (MT nD τ sig Unit (Elt F) ℕ UU ℕ)} {kt : PUnit → Prog (TpuEff nD τ sig (Elt F) Λ₀ .tc) α}

/-! ## The order in which a device's counters come back -/

set_option backward.proofsInPublic true in
/-- The cells in the order in which a device waits on them. -/
def zord : List CK :=
  let f (b ag : Fin 2) : List CK := (List.finRange 3).flatMap fun s =>
    [((0 : Fin 2), (0 : Fin 2)), (1, 0), (0, 1), (1, 1)].map fun p => .inr (b, (ag, p.1, s, p.2))
  [.inl 0] ++ f 1 0 ++ f 0 0 ++ f 1 1 ++ f 0 1 ++ [.inl 1]

/-- The counters of the first `n` of them, at zero. -/
def zs (c : Dev nD) : ℕ → sProp 𝕄
  | 0 => iprop(emp)
  | n + 1 => iprop(semVal (kcell (c, zord.getD n (.inl 0))) 0 ∗ zs c n)

/-! ## Signals and waits -/

theorem signal_step (c n : Dev nD) (d i e : Fin 2) (nP : ℕ) (hn : n = nx d c) {s : Sem sig} (hs : SemLoc.reg s = csem (.inl i))
    (hp : pays.drop nP = (d, .inl i) :: pays.drop (nP + 1)) {z : ℤ} (hk : z = 1) :
    ctx (F := F) m K ⊢ iprop(dutyTok ER (kcell (nx d c, .inl i)) 0 e -∗ payOf m (nx d c) (.inl i) e -∗ owd c nP
      -∗ (owd c (nP + 1) -∗ run c (kt ⟨⟩) Kt) -∗ run c (.op (.semSignal (n, .tc) s z) kt) Kt) := by
  subst hn hk
  iintro #Hctx Hd Hpay Ho Hk
  ihave #Hi := (ctx_inv m K (nx d c, .inl i)) $$ Hctx
  icases Hi with ⟨#Hi, #Hr⟩
  unfold owd
  icases Ho with ⟨%W, Ho⟩
  have key := Rounds.wp_signal (defs := defs₀ (F := F)) (Γ := []) (Q := Kt) (k := kt) 𝒱₀ ER (rd (F := F) m) (c : Thread nD τ) none
    (dst := (nx d c : Thread nD τ)) (sem := s) (r := 0) (κ := K (nx d c, .inl i)) (d := e) (k' := 1)
    (by rw [hs]; exact (duties_eq m (nx d c, .inl i)).symm ▸ Finset.mem_univ _)
    (by rw [hs]; exact amount_eq m (nx d c, .inl i) 0 e) () (O₀ := oweL c (pays.drop nP)) (oweL c (pays.drop (nP + 1)))
    (by rw [hp, hs]; rfl) (W := W) (Es := Set.univ)
  rw [hs] at key
  iapply key $$ [Ho Hd Hpay]
  · isplitr; · iexact Hi
    isplitl [Ho]; · iexact Ho
    isplitl [Hd]; · iexact Hd
    isplitl [Hpay]; · rw [payload_eq m (nx d c, .inl i) 0 e]; iexact Hpay
    iexact Hr
  iintro Ho
  iapply Hk
  iexists W
  iexact Ho

/-- A wait for all of a cell's round: the cell is closed at once and its counter kept with the others. -/
theorem wait_core (c : Dev nD) (k : CK) (nP nZ : ℕ) {w : TpuEff nD τ sig (Elt F) Λ₀ .tc PUnit} {k' : ℕ} (hk : k' = tot k)
    (hw : ∀ R : PUnit → sProp 𝕄, wpE (defs₀ (F := F)) 𝒱₀ (c : Thread nD τ) none Set.univ w R = waitSpec (c : Thread nD τ) Set.univ (csem k) k' R)
    (hl : ∀ p ∈ pays.drop nP, lvS (csem k) < lvK p.2) (hz : zord.getD nZ (.inl 0) = k) :
    ctx (F := F) m K ⊢ iprop(atPos ER (kcell (c, k)) 0 ∅ 0 -∗ cred (tallyAt (kcell (c, k)) () (tot k)) -∗ owd c nP -∗ zs c nZ
      -∗ (bigSep ((rd (F := F) m).duties (kcell (c, k)) 0 \ ∅) (fun e => (rd (F := F) m).payload (kcell (c, k)) 0 e)
          -∗ owd c nP -∗ zs c (nZ + 1) -∗ run c (kt ⟨⟩) Kt) -∗ run c (.op w kt) Kt) := by
  subst hk
  iintro #Hctx Hat Hc Ho Hz Hk
  ihave #Hi := (ctx_inv m K (c, k)) $$ Hctx
  icases Hi with ⟨#Hi, #Hr⟩
  ihave #Hlev := (ctx_lev m K) $$ Hctx
  unfold owd
  icases Ho with ⟨%W, Ho⟩
  iapply (Rounds.wp_wait_rest_token 𝒱₀ ER (rd (F := F) m) (c : Thread nD τ) none (κ := K (c, k)) (sm := csem k) (k := kt)
      hw (Set.mem_univ _) () (O := oweL c (pays.drop nP)) (W := W) (R := 0) (m := 0) (T := ∅)
      (by rw [Nat.zero_add]; exact (expect_eq m (c, k)).symm)) $$ [Hc Ho Hat]
  · isplitr; · iexact Hi
    isplitl [Hc]; · iexact Hc
    isplitl [Ho]; · iexact Ho
    isplitr; · iapply (mayWait c (csem k) _ hl); iexact Hlev
    iexact Hat
  iintro ⟨Ho, Hat, -, Hpay⟩
  imod (Rounds.cell_close ER (rd (F := F) m) (Set.mem_univ (K (c, k))) (fun h => h) (R := 0 + 1) (duties_later m (kcell (c, k)))) $$ [Hat] with Hv
  · isplitr; · iexact Hi
    iexact Hat
  iapply Hk $$ Hpay [Ho] [Hv Hz]
  · iexists (insert (csem k, ()) W); iexact Ho
  · rw [show zs (F := F) c (nZ + 1) = iprop(semVal (kcell (c, k)) 0 ∗ zs c nZ) from by rw [← hz]; rfl]
    isplitl [Hv] <;> iassumption

theorem waitr_step (c : Dev nD) (i : Fin 2) (nP nZ : ℕ) {s : Sem sig} (hs : SemLoc.reg s = csem (.inl i)) {z : ℤ} (hk : z = 2)
    (hl : ∀ p ∈ pays.drop nP, lvS (csem (.inl i)) < lvK p.2) (hz : zord.getD nZ (.inl 0) = .inl i) :
    ctx (F := F) m K ⊢ iprop(atPos ER (kcell (c, .inl i)) 0 ∅ 0 -∗ cred (tallyAt (kcell (c, .inl i)) () 2) -∗ owd c nP -∗ zs c nZ
      -∗ (iprop(payOf m c (.inl i) 0 ∗ payOf m c (.inl i) 1) -∗ owd c nP -∗ zs c (nZ + 1) -∗ run c (kt ⟨⟩) Kt)
      -∗ run c (.op (.semWait s z) kt) Kt) := by
  subst hk
  have h := wait_core m K c (.inl i) nP nZ (kt := kt) (Kt := Kt) (w := .semWait s 2) rfl
    (fun R => by rw [← hs]; exact wpE_semWait_eq 𝒱₀ (c : Thread nD τ) none Set.univ R) hl hz
  rw [pay_rest_r] at h
  exact h

theorem waitx_step (c : Dev nD) (b : Fin 2) (x : XT) (nP nZ : ℕ) {s : DmaSem sig} (hs : s = xsem b x)
    {src dst : Memref sig .tc .vmem S256x1024 .bf16} {hsrc : src.view.WordExact} {hdst : dst.view.WordExact}
    (hN : dst.view.dmaCredit = N)
    (hl : ∀ p ∈ pays.drop nP, lvS (csem (.inr (b, x))) < lvK p.2) (hz : zord.getD nZ (.inl 0) = .inr (b, x)) :
    ctx (F := F) m K ⊢ iprop(WT (F := F) c b x -∗ owd c nP -∗ zs c nZ
      -∗ (payOf m c (.inr (b, x)) 0 -∗ owd c nP -∗ zs c (nZ + 1) -∗ run c (kt ⟨⟩) Kt)
      -∗ run c (.op (.waitDma2 s src dst hsrc hdst) kt) Kt) := by
  subst hs
  have h := wait_core m K c (.inr (b, x)) nP nZ (kt := kt) (Kt := Kt) (w := .waitDma2 (xsem b x) src dst hsrc hdst) hN
    (fun R => wpE_waitDma2_eq 𝒱₀ (c : Thread nD τ) none Set.univ R) hl hz
  rw [pay_rest_x, show tot (.inr (b, x)) = N from rfl] at h
  unfold WT
  iintro #Hctx ⟨Hat, Hc⟩
  iapply h $$ Hctx Hat Hc

/-! ## Transfers -/

theorem send_step (c n : Dev nD) (x : XT) (nP : ℕ) (hn : n = nx x.2.1 c) {src dst : Memref sig .tc .vmem S256x1024 .bf16}
    {sS sR : DmaSem sig} (hs : sS = xsem 0 x) (hr : sR = xsem 1 x) {hsc : dst.view.ref.isScScratch = false}
    {hsrc : src.view.WordExact} {hdst : dst.view.WordExact}
    {hsem : DmaTarget.Typed .vmem (.dma sR) (.remote (Dev.tc n : Thread nD τ) dst (.dma sS) hsc)}
    (hN : dst.view.dmaCredit = N) (hp : pays.drop nP = (x.2.1, .inr (1, x)) :: pays.drop (nP + 1))
    (v : S256x1024.Idx → Elt F .bf16) (q : PosShare TreeShare) (R : sProp 𝕄)
    (hpay₁ : owns (c : Thread nD τ) src q v ⊢ payS m c x)
    (hpay₂ : iprop(owns (nx x.2.1 c : Thread nD τ) dst fullShare v ∗ R) ⊢ payR m (nx x.2.1 c) x) :
    ctx (F := F) m K ⊢ iprop(SB (F := F) c x -∗ owns (c : Thread nD τ) src q v
      -∗ (∃ X : S256x1024.Idx → Elt F .bf16, owns (nx x.2.1 c : Thread nD τ) dst fullShare X) -∗ R -∗ owd c nP
      -∗ (WT c 0 x -∗ owd c (nP + 1) -∗ run c (kt ⟨⟩) Kt)
      -∗ run c (.op (.enqueueDma src (.remote (Dev.tc n : Thread nD τ) dst (.dma sS) hsc) (.dma sR) hsrc hdst hsem) kt) Kt) := by
  subst hn hs hr
  unfold SB WT owd
  iintro #Hctx ⟨Hd1, Hd2, Hat⟩ Hsrc Hdst HR Ho Hk
  ihave #Hi1 := (ctx_inv m K (c, .inr (0, x))) $$ Hctx
  icases Hi1 with ⟨#Hi1, #Hr1⟩
  ihave #Hi2 := (ctx_inv m K (nx x.2.1 c, .inr (1, x))) $$ Hctx
  icases Hi2 with ⟨#Hi2, #Hr2⟩
  icases Ho with ⟨%W, Ho⟩
  unfold owns
  icases Hsrc with ⟨%fs, %hfs, Hsrc⟩
  icases Hdst with ⟨%X, %fd, %hfd, Hdst⟩
  iapply (Rounds.wp_send_pointsTo_with 𝒱₀ ER (rd (F := F) m) (c : Thread nD τ) none (κ₁ := K (c, .inr (0, x)))
      (κ₂ := K (nx x.2.1 c, .inr (1, x))) (r₁ := 0) (r₂ := 0) (d₁ := 0) (d₂ := 0) (fd := fd) (fs := fs) (q := q) (F := R)
      (by rw [duties_eq m (c, .inr (0, x))]; exact Finset.mem_singleton_self _)
      (by rw [duties_eq m (nx x.2.1 c, .inr (1, x))]; exact Finset.mem_singleton_self _)
      () () N (show dst.view.amount (.dma (xsem 1 x)) = N from hN) (amount_eq m (c, .inr (0, x)) 0 0) (amount_eq m (nx x.2.1 c, .inr (1, x)) 0 0)
      (O₀ := oweL c (pays.drop nP)) (oweL c (pays.drop (nP + 1))) (by rw [hp]; rfl) (W := W)
      (by
        rw [payload_eq m (c, .inr (0, x))]
        refine (?_ : _ ⊢ owns (c : Thread nD τ) src q v).trans hpay₁
        rw [← hfs]; exact owns_intro _ _ _ _)
      (by
        rw [payload_eq m (nx x.2.1 c, .inr (1, x))]
        refine (sep_mono_left ?_).trans hpay₂
        rw [← View.read_write_univ (v := dst.view) fd v, hfs]; exact owns_intro _ _ _ _)) $$ [Hsrc Hdst HR Ho Hd1 Hd2]
  · isplitr; · iexact Hi1
    isplitr; · iexact Hi2
    isplitl [Hsrc]; · iexact Hsrc
    isplitl [Hdst HR]
    · isplitl [Hdst] <;> iassumption
    isplitl [Ho]; · iexact Ho
    isplitl [Hd1]; · iexact Hd1
    isplitr; · iexact Hr1
    isplitl [Hd2]; · iexact Hd2
    iexact Hr2
  iintro ⟨Hc, Ho⟩
  iapply Hk $$ [Hat Hc] [Ho]
  · isplitl [Hat] <;> iassumption
  · iexists W; iexact Ho

/-- A transfer whose source comes to rest with its receiver: nothing comes back to the sender. -/
theorem send_land_step (c n : Dev nD) (x : XT) (nP : ℕ) (hn : n = nx x.2.1 c) {src dst : Memref sig .tc .vmem S256x1024 .bf16}
    {sS sR : DmaSem sig} (hs : sS = xsem 0 x) (hr : sR = xsem 1 x) {hsc : dst.view.ref.isScScratch = false}
    {hsrc : src.view.WordExact} {hdst : dst.view.WordExact}
    {hsem : DmaTarget.Typed .vmem (.dma sR) (.remote (Dev.tc n : Thread nD τ) dst (.dma sS) hsc)}
    (hN : dst.view.dmaCredit = N) (hp : pays.drop nP = (x.2.1, .inr (1, x)) :: pays.drop (nP + 1))
    (v : S256x1024.Idx → Elt F .bf16)
    (hpay₁ : (iprop(emp) : sProp 𝕄) ⊢ payS m c x)
    (hpay₂ : iprop(owns (nx x.2.1 c : Thread nD τ) dst fullShare v ∗ owns (c : Thread nD τ) src fullShare v) ⊢ payR m (nx x.2.1 c) x) :
    ctx (F := F) m K ⊢ iprop(SB (F := F) c x -∗ owns (c : Thread nD τ) src fullShare v
      -∗ (∃ X : S256x1024.Idx → Elt F .bf16, owns (nx x.2.1 c : Thread nD τ) dst fullShare X) -∗ owd c nP
      -∗ (WT c 0 x -∗ owd c (nP + 1) -∗ run c (kt ⟨⟩) Kt)
      -∗ run c (.op (.enqueueDma src (.remote (Dev.tc n : Thread nD τ) dst (.dma sS) hsc) (.dma sR) hsrc hdst hsem) kt) Kt) := by
  subst hn hs hr
  unfold SB WT owd
  iintro #Hctx ⟨Hd1, Hd2, Hat⟩ Hsrc Hdst Ho Hk
  ihave #Hi1 := (ctx_inv m K (c, .inr (0, x))) $$ Hctx
  icases Hi1 with ⟨#Hi1, #Hr1⟩
  ihave #Hi2 := (ctx_inv m K (nx x.2.1 c, .inr (1, x))) $$ Hctx
  icases Hi2 with ⟨#Hi2, #Hr2⟩
  icases Ho with ⟨%W, Ho⟩
  unfold owns
  icases Hsrc with ⟨%fs, %hfs, Hsrc⟩
  icases Hdst with ⟨%X, %fd, %hfd, Hdst⟩
  iapply (Rounds.wp_send_landing_pointsTo_with 𝒱₀ ER (rd (F := F) m) (c : Thread nD τ) none (κ₁ := K (c, .inr (0, x)))
      (κ₂ := K (nx x.2.1 c, .inr (1, x))) (r₁ := 0) (r₂ := 0) (d₁ := 0) (d₂ := 0) (fd := fd) (fs := fs) (q := fullShare) (F := iprop(emp))
      (by rw [duties_eq m (c, .inr (0, x))]; exact Finset.mem_singleton_self _)
      (by rw [duties_eq m (nx x.2.1 c, .inr (1, x))]; exact Finset.mem_singleton_self _)
      () () N (show dst.view.amount (.dma (xsem 1 x)) = N from hN) (amount_eq m (c, .inr (0, x)) 0 0) (amount_eq m (nx x.2.1 c, .inr (1, x)) 0 0)
      (O₀ := oweL c (pays.drop nP)) (oweL c (pays.drop (nP + 1))) (by rw [hp]; rfl) (W := W)
      (by rw [payload_eq m (c, .inr (0, x))]; exact hpay₁)
      (by
        rw [payload_eq m (nx x.2.1 c, .inr (1, x))]
        refine BIBase.Entails.trans ?_ hpay₂
        iintro ⟨⟨Ha, -⟩, Hb⟩
        isplitl [Ha]
        · have h := owns_intro (Ix := Unit) (Name := ℕ) (U := UU) (Lvl := ℕ) (nx x.2.1 c : Thread nD τ) dst fullShare
            (dst.view.write (Elt F) fd (src.view.read (Elt F) fs) Finset.univ)
          rw [View.read_write_univ, hfs] at h
          rw [hfs]
          iapply h $$ Ha
        · have h := owns_intro (Ix := Unit) (Name := ℕ) (U := UU) (Lvl := ℕ) (c : Thread nD τ) src fullShare fs
          rw [hfs] at h
          iapply h $$ Hb)) $$ [Hsrc Hdst Ho Hd1 Hd2]
  · isplitr; · iexact Hi1
    isplitr; · iexact Hi2
    isplitl [Hsrc]; · iexact Hsrc
    isplitl [Hdst]
    · isplitl [Hdst]; · iexact Hdst
      iempintro
    isplitl [Ho]; · iexact Ho
    isplitl [Hd1]; · iexact Hd1
    isplitr; · iexact Hr1
    isplitl [Hd2]; · iexact Hd2
    iexact Hr2
  iintro ⟨Hc, Ho⟩
  iapply Hk $$ [Hat Hc] [Ho]
  · isplitl [Hat] <;> iassumption
  · iexists W; iexact Ho

end Cert.Duplex
-- ==== Proof.Moves.lean ====
module

public import proofs.«01_k».proof.Proof.Steps
public import Idealize.ShloMosaic.Lib.Pipeline.Value
public import Idealize.ShloMosaic.Lib.StableHlo.CollectiveRules

@[expose] public section

noncomputable section

namespace Cert.Duplex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CK → ℕ)

variable {α : Type} {Kt : α → sProp (MT nD τ sig Unit (Elt F) ℕ UU ℕ)} {kt : PUnit → Prog (TpuEff nD τ sig (Elt F) Λ₀ .tc) α}

/-! ## Values -/

theorem down_up (v : FVec F S256x1024 .bf16) (h : S1x256x1024.ShapeCasts S256x1024) : shapeCast S256x1024 (up v) h = v :=
  shapeCast_shapeCast v _ h
theorem up_down (X : S1x256x1024.Idx → Elt F .bf16) (h : S1x256x1024.ShapeCasts S256x1024) :
    up (F := F) (shapeCast S256x1024 X h) = X := shapeCast_shapeCast X h _

theorem acc_zero (c : Dev nD) (d q : Fin 2) : gp m c (ch d c 0) d q = acc m d (ch d c 0) q 0 := by
  show _ = gp m (nxi d (ch d c 0) 0) (ch d c 0) d q
  rw [show nxi d (ch d c 0) 0 = c from nxi_ch d c 0]
theorem acc_add (c : Dev nD) (d q : Fin 2) (s : Fin 3) (h : S1x256x1024.ShapeCasts S256x1024) :
    addf (acc m d (ch d c (s.val + 1)) q s.val) (shapeCast S256x1024 (up (gp m c (ch d c (s.val + 1)) d q)) h)
      = acc m d (ch d c (s.val + 1)) q (s.val + 1) := by
  rw [down_up]
  show _ = addf (acc m d (ch d c (s.val + 1)) q s.val) (gp m (nxi d (ch d c (s.val + 1)) (s.val + 1)) (ch d c (s.val + 1)) d q)
  rw [show nxi d (ch d c (s.val + 1)) (s.val + 1) = c from nxi_ch d c s.succ]
/-- A landing region after the sum's next step. -/
theorem acc_mid (c : Dev nD) (d q : Fin 2) (s : Fin 3) :
    k0_pay19 (acc m d (ch d c (s.val + 1)) q s.val) (up (gp m c (ch d c (s.val + 1)) d q)) = acc m d (ch d c (s.val + 1)) q (s.val + 1) := by
  show shapeCast S256x1024 (addf _ (shapeCast S256x1024 (up _) _)) _ = _
  rw [acc_add m c d q s, shapeCast_self]
theorem acc_mid0 (c : Dev nD) (d q : Fin 2) : k0_pay19 (acc m d (ch d c 1) q 0) (up (gp m c (ch d c 1) d q)) = acc m d (ch d c 1) q 1 := acc_mid m c d q 0
theorem acc_mid1 (c : Dev nD) (d q : Fin 2) : k0_pay19 (acc m d (ch d c 2) q 1) (up (gp m c (ch d c 2) d q)) = acc m d (ch d c 2) q 2 := acc_mid m c d q 1
/-- A chunk's slot after the sum's last step. -/
theorem acc_fin (c : Dev nD) (d q : Fin 2) :
    k0_pay34 (acc m d (ch d c 3) q 2) (up (gp m c (ch d c 3) d q)) = up (acc m d (ch d c 3) q 3) := by
  show shapeCast S1x256x1024 (addf _ (shapeCast S256x1024 (up _) _)) _ = _
  have h := acc_add m c d q 2 shapeCasts_S1x256x1024_S256x1024
  exact congrArg (fun v => shapeCast S1x256x1024 v shapeCasts_S256x1024_S1x256x1024) h
/-- One piece of the result, as the second matmul makes it. -/
theorem out_mm (c : Dev nD) (k : Fin 4) (d q : Fin 2) : k0_pay39 (up (acc m d k q 3)) (w2b m c) = outp m c k d q := by
  have h := down_up (acc m d k q 3) shapeCasts_S1x256x1024_S256x1024
  exact congrArg (fun v => k0_pay42 v (w2b m c) (constant S256x1024 .f32 0x00000000#32)) h
theorem out_mm' (c : Dev nD) (k : Fin 4) (d q : Fin 2) :
    k0_pay42 (k0_pay41 (up (acc m d k q 3))) (w2b m c) (constant S256x1024 .f32 0x00000000#32) = outp m c k d q := by
  exact out_mm m c k d q

/-! ## Loads and stores -/

def xW (c : Dev nD) : sProp 𝕄 := ((c : Thread nD τ).loc cc0_stg0_0) ↦{fullShare} xstg m c
def w1W (c : Dev nD) : sProp 𝕄 := ((c : Thread nD τ).loc cc0_stg1_0) ↦{fullShare} w1stg m c
def w2W (c : Dev nD) : sProp 𝕄 := ((c : Thread nD τ).loc cc0_stg2_0) ↦{fullShare} w2stg m c
def wbA (c : Dev nD) : sProp 𝕄 := iprop(∃ f : (cc0_scratch2 : Ref sig .tc).ty.Contents (Elt F), ((c : Thread nD τ).loc cc0_scratch2) ↦{fullShare} f)
def wbP (c : Dev nD) : sProp 𝕄 := ((c : Thread nD τ).loc cc0_scratch2) ↦{fullShare} (w2b m c : (cc0_scratch2 : Ref sig .tc).ty.Contents (Elt F))

theorem hz2 : (![0, 0] : Fin 2 → Nat) = fun _ => 0 := funext fun a => by fin_cases a <;> rfl

theorem ld_x (c : Dev nD) (k : Fin 4) (d q : Fin 2) {off : Fin 2 → ℕ} (ho : off = xoff k d q)
    {inb : ∀ a, off a + S256x1024.size a ≤ S4096x1024.size a} {hl : xM.view.LoadsAt (Rect.unit (s := S4096x1024) off S256x1024.size inb).toLoadRect}
    {kv : (S256x1024.Idx → Elt F .f32) → Prog (TpuEff nD τ sig (Elt F) Λ₀ .tc) α} :
    xW m c ⊢ iprop((xW m c -∗ run c (kv (xr m c k d q)) Kt)
      -∗ run c (.op (.load xM (Rect.unit (s := S4096x1024) off S256x1024.size inb).toLoadRect hl) kv) Kt) := by
  subst ho
  unfold xW
  exact wp_load (defs := defs₀ (F := F)) (Γ := []) (Q := Kt) 𝒱₀ (c : Thread nD τ) none Set.univ (m := xM)
    (r := (Rect.unit (s := S4096x1024) (xoff k d q) S256x1024.size inb).toLoadRect) (hl := hl) (k := kv) (q := fullShare) (f := xstg m c) (Finset.subset_univ _)

theorem ld_w1 (c : Dev nD) {inb : ∀ a, (![0, 0] : Fin 2 → ℕ) a + S1024x1024.size a ≤ S1024x1024.size a}
    {hl : w1M.view.LoadsAt (Rect.unit (s := S1024x1024) ![0, 0] S1024x1024.size inb).toLoadRect}
    {kv : (S1024x1024.Idx → Elt F .f32) → Prog (TpuEff nD τ sig (Elt F) Λ₀ .tc) α} :
    w1W m c ⊢ iprop((w1W m c -∗ run c (kv (w1stg m c)) Kt)
      -∗ run c (.op (.load w1M (Rect.unit (s := S1024x1024) ![0, 0] S1024x1024.size inb).toLoadRect hl) kv) Kt) := by
  have h := wp_load (defs := defs₀ (F := F)) (Γ := []) (Q := Kt) 𝒱₀ (c : Thread nD τ) none Set.univ (m := w1M) (r := (Rect.unit (s := S1024x1024) ![0, 0] S1024x1024.size inb).toLoadRect)
    (hl := hl) (k := kv) (q := fullShare) (f := w1stg m c) (Finset.subset_univ _)
  rw [show w1M.view.readAt (Elt F) (Rect.unit (s := S1024x1024) ![0, 0] S1024x1024.size inb).toLoadRect (w1stg m c) = w1stg m c from
    Memref.readAt_unit_zero (Elt F) cc0_stg1_0 hz2 _ (w1stg m c)] at h
  exact h

theorem ld_w2 (c : Dev nD) {inb : ∀ a, (![0, 0] : Fin 2 → ℕ) a + S1024x1024.size a ≤ S1024x1024.size a}
    {hl : w2M.view.LoadsAt (Rect.unit (s := S1024x1024) ![0, 0] S1024x1024.size inb).toLoadRect}
    {kv : (S1024x1024.Idx → Elt F .f32) → Prog (TpuEff nD τ sig (Elt F) Λ₀ .tc) α} :
    w2W m c ⊢ iprop((w2W m c -∗ run c (kv (w2stg m c)) Kt)
      -∗ run c (.op (.load w2M (Rect.unit (s := S1024x1024) ![0, 0] S1024x1024.size inb).toLoadRect hl) kv) Kt) := by
  have h := wp_load (defs := defs₀ (F := F)) (Γ := []) (Q := Kt) 𝒱₀ (c : Thread nD τ) none Set.univ (m := w2M) (r := (Rect.unit (s := S1024x1024) ![0, 0] S1024x1024.size inb).toLoadRect)
    (hl := hl) (k := kv) (q := fullShare) (f := w2stg m c) (Finset.subset_univ _)
  rw [show w2M.view.readAt (Elt F) (Rect.unit (s := S1024x1024) ![0, 0] S1024x1024.size inb).toLoadRect (w2stg m c) = w2stg m c from
    Memref.readAt_unit_zero (Elt F) cc0_stg2_0 hz2 _ (w2stg m c)] at h
  exact h

theorem ld_wb (c : Dev nD) {inb : ∀ a, (![0, 0] : Fin 2 → ℕ) a + S1024x1024.size a ≤ S1024x1024.size a}
    {hl : w2bM.view.LoadsAt (Rect.unit (s := S1024x1024) ![0, 0] S1024x1024.size inb).toLoadRect}
    {kv : (S1024x1024.Idx → Elt F .bf16) → Prog (TpuEff nD τ sig (Elt F) Λ₀ .tc) α} :
    wbP m c ⊢ iprop((wbP m c -∗ run c (kv (w2b m c)) Kt)
      -∗ run c (.op (.load w2bM (Rect.unit (s := S1024x1024) ![0, 0] S1024x1024.size inb).toLoadRect hl) kv) Kt) := by
  have h := wp_load (defs := defs₀ (F := F)) (Γ := []) (Q := Kt) 𝒱₀ (c : Thread nD τ) none Set.univ (m := w2bM) (r := (Rect.unit (s := S1024x1024) ![0, 0] S1024x1024.size inb).toLoadRect)
    (hl := hl) (k := kv) (q := fullShare) (f := w2b m c) (Finset.subset_univ _)
  rw [show w2bM.view.readAt (Elt F) (Rect.unit (s := S1024x1024) ![0, 0] S1024x1024.size inb).toLoadRect (w2b m c) = w2b m c from
    Memref.readAt_unit_zero (Elt F) cc0_scratch2 hz2 _ (w2b m c)] at h
  exact h

theorem ld_wbA (c : Dev nD) {inb : ∀ a, (![0, 0] : Fin 2 → ℕ) a + S1024x1024.size a ≤ S1024x1024.size a}
    {hl : w2bM.view.LoadsAt (Rect.unit (s := S1024x1024) ![0, 0] S1024x1024.size inb).toLoadRect}
    {kv : (S1024x1024.Idx → Elt F .bf16) → Prog (TpuEff nD τ sig (Elt F) Λ₀ .tc) α} :
    wbA (F := F) c ⊢ iprop((wbA c -∗ ∀ X, run c (kv X) Kt)
      -∗ run c (.op (.load w2bM (Rect.unit (s := S1024x1024) ![0, 0] S1024x1024.size inb).toLoadRect hl) kv) Kt) := by
  unfold wbA
  iintro ⟨%f, H⟩ Hk
  iapply (wp_load 𝒱₀ (c : Thread nD τ) none Set.univ (m := w2bM) (Finset.subset_univ _)) $$ H
  iintro H
  ihave Hk := Hk $$ [H]
  · iexists f; iexact H
  iapply Hk

theorem st_wb (c : Dev nD) {inb : ∀ a, (![0, 0] : Fin 2 → ℕ) a + S1024x1024.size a ≤ S1024x1024.size a}
    {w : FVec F S1024x1024 .bf16} (hw : w = w2b m c)
    {hx : (w2bM.access (Rect.unit (s := S1024x1024) ![0, 0] S1024x1024.size inb)).Stores Finset.univ}
    {hm : (Finset.univ : Finset S1024x1024.Idx) = Finset.univ ∨ ∀ a, (Rect.unit (s := S1024x1024) ![0, 0] S1024x1024.size inb).stride a = 1} :
    wbA (F := F) c ⊢ iprop((wbP m c -∗ run c (kt ⟨⟩) Kt)
      -∗ run c (.op (.store w2bM (Rect.unit (s := S1024x1024) ![0, 0] S1024x1024.size inb) w Finset.univ hx hm) kt) Kt) := by
  subst hw
  unfold wbA
  iintro ⟨%f, H⟩ Hk
  have h := wp_store (defs := defs₀ (F := F)) (Γ := []) (Q := Kt) 𝒱₀ (c : Thread nD τ) none Set.univ (m := w2bM) (r := Rect.unit (s := S1024x1024) ![0, 0] S1024x1024.size inb)
    (hx := hx) (hm := hm) (k := kt) (w := w2b m c) (Mk := Finset.univ) (f := f) (S := Finset.univ) (Finset.subset_univ _)
  rw [show (w2bM.access (Rect.unit (s := S1024x1024) ![0, 0] S1024x1024.size inb)).write (Elt F) f (w2b m c) Finset.univ = w2b m c from
    Memref.write_access_unit_zero_univ (Elt F) cc0_scratch2 hz2 _ f (w2b m c)] at h
  iapply h $$ H
  iexact Hk

section Piece

variable {s sv : Shape} {e : EltTy} (M : Memref sig .tc .vmem s e)

/-- A load of one piece of a buffer that the device owns at a known value. -/
theorem ld_piece (c : Dev nD) {size : Fin s.rank → ℕ} {off off' : Fin s.rank → ℕ} (ho : off = off') {inb : ∀ a, off a + size a ≤ s.size a}
    {inb' : ∀ a, off' a + size a ≤ s.size a} {hst : ∀ a, (Rect.unit (s := s) off' size inb').stride a = 1}
    {hl : M.view.LoadsAt (Rect.unit (s := s) off size inb).toLoadRect} {q : PosShare TreeShare}
    {X : (Rect.unit (s := s) off size inb).shape.Idx → Elt F e}
    {kv : ((Rect.unit (s := s) off size inb).shape.Idx → Elt F e) → Prog (TpuEff nD τ sig (Elt F) Λ₀ .tc) α} :
    (owns (c : Thread nD τ) (M.slice (Rect.unit (s := s) off' size inb') hst) q X : sProp 𝕄)
      ⊢ iprop((owns (c : Thread nD τ) (M.slice (Rect.unit (s := s) off' size inb') hst) q X -∗ run c (kv X) Kt)
        -∗ run c (.op (.load M (Rect.unit (s := s) off size inb).toLoadRect hl) kv) Kt) := by
  subst ho
  unfold owns
  iintro ⟨%f, %hf, H⟩ Hk
  iapply (wp_load_rect 𝒱₀ (c : Thread nD τ) none Set.univ (m := M) (Finset.Subset.refl _)) $$ H
  iintro H
  rw [show (M.access (Rect.unit (s := s) off size inb)).read (Elt F) f = X from hf]
  iapply Hk
  iexists f; isplitr
  · ipureintro; exact hf
  iexact H

/-- A store of one whole piece of a buffer that the device owns. -/
theorem st_piece (c : Dev nD) {size : Fin s.rank → ℕ} {off off' : Fin s.rank → ℕ} (ho : off = off') {inb : ∀ a, off a + size a ≤ s.size a}
    {inb' : ∀ a, off' a + size a ≤ s.size a} {hst : ∀ a, (Rect.unit (s := s) off' size inb').stride a = 1}
    {w : (Rect.unit (s := s) off size inb).shape.Idx → Elt F e}
    {hx : (M.access (Rect.unit (s := s) off size inb)).Stores Finset.univ}
    {hm : (Finset.univ : Finset (Rect.unit (s := s) off size inb).shape.Idx) = Finset.univ ∨ ∀ a, (Rect.unit (s := s) off size inb).stride a = 1} :
    (iprop(∃ X : (Rect.unit (s := s) off' size inb').shape.Idx → Elt F e,
        owns (c : Thread nD τ) (M.slice (Rect.unit (s := s) off' size inb') hst) fullShare X) : sProp 𝕄)
      ⊢ iprop((owns (c : Thread nD τ) (M.slice (Rect.unit (s := s) off' size inb') hst) fullShare w -∗ run c (kt ⟨⟩) Kt)
        -∗ run c (.op (.store M (Rect.unit (s := s) off size inb) w Finset.univ hx hm) kt) Kt) := by
  subst ho
  unfold owns
  iintro ⟨%X, %f, %hf, H⟩ Hk
  iapply (wp_store 𝒱₀ (c : Thread nD τ) none Set.univ (m := M) (r := Rect.unit (s := s) off size inb) (Mk := Finset.univ)
    (S := (M.access (Rect.unit (s := s) off size inb)).set) (by rw [View.setOn_univ])) $$ H
  iintro H
  iapply Hk
  iexists _; isplitr
  · ipureintro; exact View.read_write_univ f w
  iexact H

end Piece

/-- The program names a chunk's slot as a block without its first dimension. -/
abbrev hsq (k : Fin 4) (d q : Fin 2) : Memref sig .tc .vmem S256x1024 .bf16 := (hmem k d q).squeeze S256x1024 squeezes_S1x256x1024_S256x1024

theorem hP_to (c : Dev nD) (k : Fin 4) (d q : Fin 2) (sh : PosShare TreeShare) (v : FVec F S256x1024 .bf16) :
    hP (F := F) c k d q sh v ⊢ owns (c : Thread nD τ) (hsq k d q) sh v := by
  have e : ((hsq k d q).view).set = (hmem k d q).view.set := View.set_reshape _ _
  unfold hP owns
  rw [e]
  iintro ⟨%f, %hf, H⟩
  iexists f; isplitr
  · ipureintro
    refine (congrArg (fun X => shapeCast S256x1024 X shapeCasts_S1x256x1024_S256x1024) hf).trans ?_
    exact down_up v _
  iexact H
theorem hP_of (c : Dev nD) (k : Fin 4) (d q : Fin 2) (sh : PosShare TreeShare) (v : FVec F S256x1024 .bf16) :
    owns (c : Thread nD τ) (hsq k d q) sh v ⊢ hP (F := F) c k d q sh v := by
  have e : ((hsq k d q).view).set = (hmem k d q).view.set := View.set_reshape _ _
  unfold hP owns
  rw [e]
  iintro ⟨%f, %hf, H⟩
  iexists f; isplitr
  · ipureintro
    refine Eq.trans ?_ (congrArg (fun X => up (F := F) X) hf)
    exact (up_down (F := F) ((hmem k d q).view.read (Elt F) f) shapeCasts_S1x256x1024_S256x1024).symm
  iexact H
theorem hA_to (c : Dev nD) (k : Fin 4) (d q : Fin 2) :
    hA (F := F) c k d q ⊢ iprop(∃ X : S256x1024.Idx → Elt F .bf16, owns (c : Thread nD τ) (hsq k d q) fullShare X) := by
  unfold hA
  iintro ⟨%X, H⟩
  iexists (shapeCast S256x1024 X shapeCasts_S1x256x1024_S256x1024)
  iapply (hP_to c k d q fullShare (shapeCast S256x1024 X shapeCasts_S1x256x1024_S256x1024))
  unfold hP
  rw [up_down]
  iexact H

theorem hP_hA (c : Dev nD) (k : Fin 4) (d q : Fin 2) (v : FVec F S256x1024 .bf16) : hP (F := F) c k d q fullShare v ⊢ hA c k d q := by
  unfold hP hA
  iintro H; iexists (up v); iexact H
theorem rP_rA (c : Dev nD) (d q : Fin 2) (s : Fin 3) (v : FVec F S256x1024 .bf16) : rP (F := F) c d q s v ⊢ rA c d q s := by
  unfold rP rA
  iintro H; iexists v; iexact H
theorem oP_oA (c : Dev nD) (k : Fin 4) (d q : Fin 2) (v : FVec F S256x1024 .f32) : oP (F := F) c k d q v ⊢ oA c k d q := by
  unfold oP oA
  iintro H; iexists v; iexact H
theorem hP_split (c : Dev nD) (k : Fin 4) (d q : Fin 2) (v : FVec F S256x1024 .bf16) :
    hP (F := F) c k d q fullShare v ⊣⊢ iprop(hP c k d q fullShare.left v ∗ hP c k d q fullShare.right v) := by
  unfold hP
  exact owns_share (Val := Elt F) (c : Thread nD τ) (hmem k d q) (by rw [PosShare.left_op_right fullShare]; exact Part.mem_some _) (up v)

/-! ## The pieces' loads and stores -/

section

variable {k : Fin 4} {d q : Fin 2}

theorem ld_h (c : Dev nD) {sh : PosShare TreeShare} {v : FVec F S256x1024 .bf16} {off : Fin 3 → ℕ} (ho : off = hoff k d q)
    {inb : ∀ a, off a + S1x256x1024.size a ≤ S16x256x1024.size a} {hl : hM.view.LoadsAt (Rect.unit (s := S16x256x1024) off S1x256x1024.size inb).toLoadRect}
    {kv : (S1x256x1024.Idx → Elt F .bf16) → Prog (TpuEff nD τ sig (Elt F) Λ₀ .tc) α} :
    hP (F := F) c k d q sh v ⊢ iprop((hP c k d q sh v -∗ run c (kv (up v)) Kt)
      -∗ run c (.op (.load hM (Rect.unit (s := S16x256x1024) off S1x256x1024.size inb).toLoadRect hl) kv) Kt) :=
  ld_piece (Kt := Kt) hM c ho (hl := hl) (kv := kv) (q := sh) (X := up v)

theorem ld_hA (c : Dev nD) {off : Fin 3 → ℕ} (ho : off = hoff k d q)
    {inb : ∀ a, off a + S1x256x1024.size a ≤ S16x256x1024.size a} {hl : hM.view.LoadsAt (Rect.unit (s := S16x256x1024) off S1x256x1024.size inb).toLoadRect}
    {kv : (S1x256x1024.Idx → Elt F .bf16) → Prog (TpuEff nD τ sig (Elt F) Λ₀ .tc) α} :
    hA (F := F) c k d q ⊢ iprop((hA c k d q -∗ ∀ X, run c (kv X) Kt)
      -∗ run c (.op (.load hM (Rect.unit (s := S16x256x1024) off S1x256x1024.size inb).toLoadRect hl) kv) Kt) := by
  unfold hA
  iintro ⟨%X, H⟩ Hk
  iapply (ld_piece (Kt := Kt) hM c ho (hl := hl) (kv := kv) (q := fullShare) (X := X)) $$ H
  iintro H
  ihave Hk := Hk $$ [H]
  · iexists X; iexact H
  iapply Hk

theorem st_h (c : Dev nD) {v : FVec F S256x1024 .bf16} {off : Fin 3 → ℕ} (ho : off = hoff k d q)
    {inb : ∀ a, off a + S1x256x1024.size a ≤ S16x256x1024.size a} {w : S1x256x1024.Idx → Elt F .bf16} (hw : w = up v)
    {hx : (hM.access (Rect.unit (s := S16x256x1024) off S1x256x1024.size inb)).Stores Finset.univ}
    {hm : (Finset.univ : Finset (Rect.unit (s := S16x256x1024) off S1x256x1024.size inb).shape.Idx) = Finset.univ
      ∨ ∀ a, (Rect.unit (s := S16x256x1024) off S1x256x1024.size inb).stride a = 1} :
    hA (F := F) c k d q ⊢ iprop((hP c k d q fullShare v -∗ run c (kt ⟨⟩) Kt)
      -∗ run c (.op (.store hM (Rect.unit (s := S16x256x1024) off S1x256x1024.size inb) w Finset.univ hx hm) kt) Kt) := by
  subst hw
  exact st_piece (Kt := Kt) hM c ho (hx := hx) (hm := hm) (kt := kt) (w := up v)

theorem ld_r {s : Fin 3} (c : Dev nD) {v : FVec F S256x1024 .bf16} {off : Fin 2 → ℕ} (ho : off = roff s d q)
    {inb : ∀ a, off a + S256x1024.size a ≤ S3072x1024.size a} {hl : rM.view.LoadsAt (Rect.unit (s := S3072x1024) off S256x1024.size inb).toLoadRect}
    {kv : (S256x1024.Idx → Elt F .bf16) → Prog (TpuEff nD τ sig (Elt F) Λ₀ .tc) α} :
    rP (F := F) c d q s v ⊢ iprop((rP c d q s v -∗ run c (kv v) Kt)
      -∗ run c (.op (.load rM (Rect.unit (s := S3072x1024) off S256x1024.size inb).toLoadRect hl) kv) Kt) :=
  ld_piece (Kt := Kt) rM c ho (hl := hl) (kv := kv) (q := fullShare) (X := v)

theorem st_r {s : Fin 3} (c : Dev nD) {u v : FVec F S256x1024 .bf16} {off : Fin 2 → ℕ} (ho : off = roff s d q)
    {inb : ∀ a, off a + S256x1024.size a ≤ S3072x1024.size a} {w : S256x1024.Idx → Elt F .bf16} (hw : w = v)
    {hx : (rM.access (Rect.unit (s := S3072x1024) off S256x1024.size inb)).Stores Finset.univ}
    {hm : (Finset.univ : Finset (Rect.unit (s := S3072x1024) off S256x1024.size inb).shape.Idx) = Finset.univ
      ∨ ∀ a, (Rect.unit (s := S3072x1024) off S256x1024.size inb).stride a = 1} :
    rP (F := F) c d q s u ⊢ iprop((rP c d q s v -∗ run c (kt ⟨⟩) Kt)
      -∗ run c (.op (.store rM (Rect.unit (s := S3072x1024) off S256x1024.size inb) w Finset.univ hx hm) kt) Kt) := by
  subst hw
  exact (rP_rA c d q s u).trans (st_piece (Kt := Kt) rM c ho (hx := hx) (hm := hm) (kt := kt) (w := w))

theorem ld_oA (c : Dev nD) {off : Fin 2 → ℕ} (ho : off = xoff k d q)
    {inb : ∀ a, off a + S256x1024.size a ≤ S4096x1024.size a} {hl : oM.view.LoadsAt (Rect.unit (s := S4096x1024) off S256x1024.size inb).toLoadRect}
    {kv : (S256x1024.Idx → Elt F .f32) → Prog (TpuEff nD τ sig (Elt F) Λ₀ .tc) α} :
    oA (F := F) c k d q ⊢ iprop((oA c k d q -∗ ∀ X, run c (kv X) Kt)
      -∗ run c (.op (.load oM (Rect.unit (s := S4096x1024) off S256x1024.size inb).toLoadRect hl) kv) Kt) := by
  unfold oA
  iintro ⟨%X, H⟩ Hk
  iapply (ld_piece (Kt := Kt) oM c ho (hl := hl) (kv := kv) (q := fullShare) (X := X)) $$ H
  iintro H
  ihave Hk := Hk $$ [H]
  · iexists X; iexact H
  iapply Hk

theorem st_o (c : Dev nD) {v : FVec F S256x1024 .f32} {off : Fin 2 → ℕ} (ho : off = xoff k d q)
    {inb : ∀ a, off a + S256x1024.size a ≤ S4096x1024.size a} {w : S256x1024.Idx → Elt F .f32} (hw : w = v)
    {hx : (oM.access (Rect.unit (s := S4096x1024) off S256x1024.size inb)).Stores Finset.univ}
    {hm : (Finset.univ : Finset (Rect.unit (s := S4096x1024) off S256x1024.size inb).shape.Idx) = Finset.univ
      ∨ ∀ a, (Rect.unit (s := S4096x1024) off S256x1024.size inb).stride a = 1} :
    oA (F := F) c k d q ⊢ iprop((oP c k d q v -∗ run c (kt ⟨⟩) Kt)
      -∗ run c (.op (.store oM (Rect.unit (s := S4096x1024) off S256x1024.size inb) w Finset.univ hx hm) kt) Kt) := by
  subst hw
  exact st_piece (Kt := Kt) oM c ho (hx := hx) (hm := hm) (kt := kt) (w := w)

end

/-! ## The transfers -/

section Sends

variable (c : Dev nD) {n : Dev nD} (d q : Fin 2) (nP : ℕ)
variable {sS sR : DmaSem sig}

/-- The program's source and target blocks. -/
abbrev hprog (off : Fin 3 → ℕ) (inb : ∀ a, off a + S1x256x1024.size a ≤ S16x256x1024.size a) : Memref sig .tc .vmem S256x1024 .bf16 :=
  (hM.slice (Rect.unit (s := S16x256x1024) off S1x256x1024.size inb) (fun _ => rfl)).squeeze S256x1024 squeezes_S1x256x1024_S256x1024
abbrev rprog (off : Fin 2 → ℕ) (inb : ∀ a, off a + S256x1024.size a ≤ S3072x1024.size a) : Memref sig .tc .vmem S256x1024 .bf16 :=
  rM.slice (Rect.unit (s := S3072x1024) off S256x1024.size inb) (fun _ => rfl)

theorem rs0 (hn : n = nx d c) {off : Fin 3 → ℕ} {off' : Fin 2 → ℕ} (ho : off = hoff (ch d c 0) d q) (ho' : off' = roff 0 d q)
    (hs : sS = xsem 0 (0, d, 0, q)) (hr : sR = xsem 1 (0, d, 0, q)) (hp : pays.drop nP = (d, .inr (1, (0, d, 0, q))) :: pays.drop (nP + 1))
    {inb : ∀ a, off a + S1x256x1024.size a ≤ S16x256x1024.size a} {inb' : ∀ a, off' a + S256x1024.size a ≤ S3072x1024.size a}
    {hsc : (rprog off' inb').view.ref.isScScratch = false} {hsrc : (hprog off inb).view.WordExact} {hdst : (rprog off' inb').view.WordExact}
    {hsem : DmaTarget.Typed .vmem (.dma sR) (.remote (Dev.tc n : Thread nD τ) (rprog off' inb') (.dma sS) hsc)} :
    ctx (F := F) m K ⊢ iprop(SB (F := F) c (0, d, 0, q) -∗ hP c (ch d c 0) d q fullShare (acc m d (ch d c 0) q 0) -∗ rA (nx d c) d q 0 -∗ owd c nP
      -∗ (WT c 0 (0, d, 0, q) -∗ owd c (nP + 1) -∗ run c (kt ⟨⟩) Kt)
      -∗ run c (.op (.enqueueDma (hprog off inb) (.remote (Dev.tc n : Thread nD τ) (rprog off' inb') (.dma sS) hsc) (.dma sR) hsrc hdst hsem) kt) Kt) := by
  subst ho ho'
  have key := send_land_step (Kt := Kt) (kt := kt) m K c n (0, d, 0, q) nP hn (src := hprog (hoff (ch d c 0) d q) inb) (dst := rprog (roff 0 d q) inb')
    hs hr (hsc := hsc) (hsrc := hsrc) (hdst := hdst) (hsem := hsem) rfl hp (acc m d (ch d c 0) q 0) BIBase.Entails.rfl (by
      show _ ⊢ iprop(rP (nx d c) d q 0 (acc m d (ch d (nx d c) 1) q 0) ∗ held d (ch d (nx d c) 1) q 0)
      rw [show ch d (nx d c) 1 = ch d c 0 from ch_nx d c 0]
      unfold held
      rw [show nxi d (ch d c 0) 0 = c from nxi_ch d c 0]
      unfold rP
      iintro ⟨H1, H2⟩
      isplitl [H1]
      · iexact H1
      iapply (hP_hA c (ch d c 0) d q _)
      iapply (hP_of c (ch d c 0) d q fullShare _)
      iexact H2)
  iintro Hctx Hsb Hh Hr Ho Hk
  iapply key $$ Hctx Hsb [Hh] [Hr] Ho Hk
  · iapply (hP_to c (ch d c 0) d q fullShare _)
    iexact Hh
  · unfold rA
    iexact Hr

theorem rs_s (s : Fin 2) (hn : n = nx d c) {off off' : Fin 2 → ℕ} (ho : off = roff s.castSucc d q) (ho' : off' = roff s.succ d q)
    (hs : sS = xsem 0 (0, d, s.succ, q)) (hr : sR = xsem 1 (0, d, s.succ, q)) (hp : pays.drop nP = (d, .inr (1, (0, d, s.succ, q))) :: pays.drop (nP + 1))
    {inb : ∀ a, off a + S256x1024.size a ≤ S3072x1024.size a} {inb' : ∀ a, off' a + S256x1024.size a ≤ S3072x1024.size a}
    {hsc : (rprog off' inb').view.ref.isScScratch = false} {hsrc : (rprog off inb).view.WordExact} {hdst : (rprog off' inb').view.WordExact}
    {hsem : DmaTarget.Typed .vmem (.dma sR) (.remote (Dev.tc n : Thread nD τ) (rprog off' inb') (.dma sS) hsc)} :
    ctx (F := F) m K ⊢ iprop(SB (F := F) c (0, d, s.succ, q) -∗ rP c d q s.castSucc (acc m d (ch d c (s.val + 1)) q (s.val + 1))
      -∗ held d (ch d c (s.val + 1)) q s.val -∗ hA c (ch d c (s.val + 1)) d q -∗ rA (nx d c) d q s.succ -∗ owd c nP
      -∗ (WT c 0 (0, d, s.succ, q) -∗ owd c (nP + 1) -∗ run c (kt ⟨⟩) Kt)
      -∗ run c (.op (.enqueueDma (rprog off inb) (.remote (Dev.tc n : Thread nD τ) (rprog off' inb') (.dma sS) hsc) (.dma sR) hsrc hdst hsem) kt) Kt) := by
  subst ho ho'
  have key := send_step (Kt := Kt) (kt := kt) m K c n (0, d, s.succ, q) nP hn (src := rprog (roff s.castSucc d q) inb) (dst := rprog (roff s.succ d q) inb')
    hs hr (hsc := hsc) (hsrc := hsrc) (hdst := hdst) (hsem := hsem) rfl hp (acc m d (ch d c (s.val + 1)) q (s.val + 1)) fullShare
    (iprop(held d (ch d c (s.val + 1)) q s.val ∗ hA c (ch d c (s.val + 1)) d q)) (by
      have e : payS (F := F) m c (0, d, s.succ, q) = rA c d q s.castSucc := by
        match s with
        | 0 => rfl
        | 1 => rfl
      rw [e]
      exact rP_rA c d q s.castSucc _) (by
      show _ ⊢ iprop(rP (nx d c) d q s.succ (acc m d (ch d (nx d c) (s.val + 1 + 1)) q (s.val + 1)) ∗ held d (ch d (nx d c) (s.val + 1 + 1)) q (s.val + 1))
      rw [show ch d (nx d c) (s.val + 1 + 1) = ch d c (s.val + 1) from ch_nx d c s.succ]
      rw [show held (F := F) d (ch d c (s.val + 1)) q (s.val + 1)
        = iprop(held d (ch d c (s.val + 1)) q s.val ∗ hA (nxi d (ch d c (s.val + 1)) (s.val + 1)) (ch d c (s.val + 1)) d q) from rfl]
      rw [show nxi d (ch d c (s.val + 1)) (s.val + 1) = c from nxi_ch d c s.succ.castSucc]
      exact BIBase.Entails.rfl)
  iintro Hctx Hsb Hp Hh Ha Hr Ho Hk
  iapply key $$ Hctx Hsb [Hp] [Hr] [Hh Ha] Ho Hk
  · unfold rP
    iexact Hp
  · unfold rA
    iexact Hr
  · isplitl [Hh]
    · iexact Hh
    iexact Ha

variable (j : ℕ)

/-- A finished chunk's block goes on to the next device; the sender keeps half a share of it. -/
theorem ag (t : Fin 3) (R : sProp 𝕄) (hj : ch d c (t.val + 3) = ch d c j) (hj' : ch d (nx d c) t.val = ch d c j)
    (hR : R ⊢ iprop(hA (nx d c) (ch d c j) d q ∗ rest (F := F) d (ch d c j) q t.val))
    (hn : n = nx d c) {off off' : Fin 3 → ℕ} (ho : off = hoff (ch d c j) d q) (ho' : off' = hoff (ch d c j) d q)
    (hs : sS = xsem 0 (1, d, t, q)) (hr : sR = xsem 1 (1, d, t, q)) (hp : pays.drop nP = (d, .inr (1, (1, d, t, q))) :: pays.drop (nP + 1))
    {inb : ∀ a, off a + S1x256x1024.size a ≤ S16x256x1024.size a} {inb' : ∀ a, off' a + S1x256x1024.size a ≤ S16x256x1024.size a}
    {hsc : (hprog off' inb').view.ref.isScScratch = false} {hsrc : (hprog off inb).view.WordExact} {hdst : (hprog off' inb').view.WordExact}
    {hsem : DmaTarget.Typed .vmem (.dma sR) (.remote (Dev.tc n : Thread nD τ) (hprog off' inb') (.dma sS) hsc)} :
    ctx (F := F) m K ⊢ iprop(SB (F := F) c (1, d, t, q) -∗ hP c (ch d c j) d q fullShare (acc m d (ch d c j) q 3) -∗ R -∗ owd c nP
      -∗ (WT c 0 (1, d, t, q) -∗ hP c (ch d c j) d q fullShare.right (acc m d (ch d c j) q 3) -∗ owd c (nP + 1) -∗ run c (kt ⟨⟩) Kt)
      -∗ run c (.op (.enqueueDma (hprog off inb) (.remote (Dev.tc n : Thread nD τ) (hprog off' inb') (.dma sS) hsc) (.dma sR) hsrc hdst hsem) kt) Kt) := by
  subst ho ho'
  have key := send_step (Kt := Kt) (kt := kt) m K c n (1, d, t, q) nP hn (src := hprog (hoff (ch d c j) d q) inb) (dst := hprog (hoff (ch d c j) d q) inb')
    hs hr (hsc := hsc) (hsrc := hsrc) (hdst := hdst) (hsem := hsem) rfl hp (acc m d (ch d c j) q 3) fullShare.left
    (rest d (ch d c j) q t.val) (by
      show _ ⊢ hP c (ch d c (t.val + 3)) d q fullShare.left (acc m d (ch d c (t.val + 3)) q 3)
      rw [hj]
      exact hP_of c (ch d c j) d q fullShare.left _) (by
      show _ ⊢ iprop(hP (nx d c) (ch d (nx d c) t.val) d q fullShare (acc m d (ch d (nx d c) t.val) q 3) ∗ rest d (ch d (nx d c) t.val) q t.val)
      rw [hj']
      iintro ⟨H1, H2⟩
      isplitl [H1]
      · iapply (hP_of (nx d c) (ch d c j) d q fullShare _)
        iexact H1
      iexact H2)
  iintro Hctx Hsb Hp HR Ho Hk
  ihave HR := hR $$ HR
  icases HR with ⟨Hh, HR⟩
  ihave Hp := (hP_split c (ch d c j) d q _).1 $$ Hp
  icases Hp with ⟨Hp, Hq⟩
  iapply key $$ Hctx Hsb [Hp] [Hh] HR Ho [Hk Hq]
  · iapply (hP_to c (ch d c j) d q fullShare.left _)
    iexact Hp
  · iapply (hA_to (nx d c) (ch d c j) d q)
    iexact Hh
  · iintro Hw Ho
    iapply Hk $$ Hw Hq Ho

theorem rs_n (s : Fin 2) (s₀ s₁ : Fin 3) (i j : ℕ) (h₀ : s.castSucc = s₀) (h₁ : s.succ = s₁) (hi : s.val = i) (hj : s.val + 1 = j)
    (hn : n = nx d c) {off off' : Fin 2 → ℕ} (ho : off = roff s₀ d q) (ho' : off' = roff s₁ d q)
    (hs : sS = xsem 0 (0, d, s₁, q)) (hr : sR = xsem 1 (0, d, s₁, q)) (hp : pays.drop nP = (d, .inr (1, (0, d, s₁, q))) :: pays.drop (nP + 1))
    {inb : ∀ a, off a + S256x1024.size a ≤ S3072x1024.size a} {inb' : ∀ a, off' a + S256x1024.size a ≤ S3072x1024.size a}
    {hsc : (rprog off' inb').view.ref.isScScratch = false} {hsrc : (rprog off inb).view.WordExact} {hdst : (rprog off' inb').view.WordExact}
    {hsem : DmaTarget.Typed .vmem (.dma sR) (.remote (Dev.tc n : Thread nD τ) (rprog off' inb') (.dma sS) hsc)} :
    ctx (F := F) m K ⊢ iprop(SB (F := F) c (0, d, s₁, q) -∗ rP c d q s₀ (acc m d (ch d c j) q j)
      -∗ held d (ch d c j) q i -∗ hA c (ch d c j) d q -∗ rA (nx d c) d q s₁ -∗ owd c nP
      -∗ (WT c 0 (0, d, s₁, q) -∗ owd c (nP + 1) -∗ run c (kt ⟨⟩) Kt)
      -∗ run c (.op (.enqueueDma (rprog off inb) (.remote (Dev.tc n : Thread nD τ) (rprog off' inb') (.dma sS) hsc) (.dma sR) hsrc hdst hsem) kt) Kt) := by
  subst h₀ h₁ hi hj
  exact rs_s m K c d q nP s hn ho ho' hs hr hp

theorem heldR : held (F := F) d (ch d c 3) q 2 ⊢ iprop(hA (nx d c) (ch d c 3) d q ∗ rest (F := F) d (ch d c 3) q 0) := by
  rw [show held (F := F) d (ch d c 3) q 2
    = iprop((hA (nxi d (ch d c 3) 0) (ch d c 3) d q ∗ hA (nxi d (ch d c 3) 1) (ch d c 3) d q) ∗ hA (nxi d (ch d c 3) 2) (ch d c 3) d q) from rfl,
    show rest (F := F) d (ch d c 3) q 0 = iprop(hA (nxi d (ch d c 3) 1) (ch d c 3) d q ∗ hA (nxi d (ch d c 3) 2) (ch d c 3) d q) from rfl,
    (by decide : ∀ (d : Fin 2) (c : Dev nD), nxi d (ch d c 3) 0 = nx d c) d c]
  iintro ⟨⟨H0, H1⟩, H2⟩
  iframe
theorem restR0 : rest (F := F) d (ch d c 0) q 0 ⊢ iprop(hA (nx d c) (ch d c 0) d q ∗ rest (F := F) d (ch d c 0) q 1) := by
  rw [show rest (F := F) d (ch d c 0) q 0 = iprop(hA (nxi d (ch d c 0) 1) (ch d c 0) d q ∗ hA (nxi d (ch d c 0) 2) (ch d c 0) d q) from rfl,
    show rest (F := F) d (ch d c 0) q 1 = hA (nxi d (ch d c 0) 2) (ch d c 0) d q from rfl,
    (by decide : ∀ (d : Fin 2) (c : Dev nD), nxi d (ch d c 0) 1 = nx d c) d c]
theorem restR1 : rest (F := F) d (ch d c 1) q 1 ⊢ iprop(hA (nx d c) (ch d c 1) d q ∗ rest (F := F) d (ch d c 1) q 2) := by
  rw [show rest (F := F) d (ch d c 1) q 1 = hA (nxi d (ch d c 1) 2) (ch d c 1) d q from rfl,
    show rest (F := F) d (ch d c 1) q 2 = iprop(emp) from rfl,
    (by decide : ∀ (d : Fin 2) (c : Dev nD), nxi d (ch d c 1) 2 = nx d c) d c]
  iintro H
  isplitl [H]
  · iexact H
  iempintro

end Sends

section Waits

variable (c : Dev nD) (d q : Fin 2) (nP nZ : ℕ) {s : DmaSem sig}
variable {src dst : Memref sig .tc .vmem S256x1024 .bf16} {hsrc : src.view.WordExact} {hdst : dst.view.WordExact}

theorem w_rs (t : Fin 3) (i j : ℕ) (hi : t.val = i) (hj : t.val + 1 = j) (hs : s = xsem 1 (0, d, t, q)) (hN : dst.view.dmaCredit = N)
    (hl : ∀ p ∈ pays.drop nP, lvS (csem (.inr (1, (0, d, t, q)))) < lvK p.2) (hz : zord.getD nZ (.inl 0) = .inr (1, (0, d, t, q))) :
    ctx (F := F) m K ⊢ iprop(WT (F := F) c 1 (0, d, t, q) -∗ owd c nP -∗ zs c nZ
      -∗ (rP c d q t (acc m d (ch d c j) q i) -∗ held d (ch d c j) q i -∗ owd c nP -∗ zs c (nZ + 1) -∗ run c (kt ⟨⟩) Kt)
      -∗ run c (.op (.waitDma2 s src dst hsrc hdst) kt) Kt) := by
  subst hi hj
  iintro Hctx Hw Ho Hz Hk
  iapply (waitx_step m K c 1 (0, d, t, q) nP nZ hs hN hl hz) $$ Hctx Hw Ho Hz
  rw [show payOf (F := F) m c (.inr (1, (0, d, t, q))) 0
    = iprop(rP c d q t (acc m d (ch d c (t.val + 1)) q t.val) ∗ held d (ch d c (t.val + 1)) q t.val) from rfl]
  iintro ⟨H1, H2⟩ Ho Hz
  iapply Hk $$ H1 H2 Ho Hz

theorem w_rss0 (hs : s = xsem 0 (0, d, 0, q)) (hN : dst.view.dmaCredit = N)
    (hl : ∀ p ∈ pays.drop nP, lvS (csem (.inr (0, (0, d, 0, q)))) < lvK p.2) (hz : zord.getD nZ (.inl 0) = .inr (0, (0, d, 0, q))) :
    ctx (F := F) m K ⊢ iprop(WT (F := F) c 0 (0, d, 0, q) -∗ owd c nP -∗ zs c nZ
      -∗ (owd c nP -∗ zs c (nZ + 1) -∗ run c (kt ⟨⟩) Kt) -∗ run c (.op (.waitDma2 s src dst hsrc hdst) kt) Kt) := by
  iintro Hctx Hw Ho Hz Hk
  iapply (waitx_step m K c 0 (0, d, 0, q) nP nZ hs hN hl hz) $$ Hctx Hw Ho Hz
  rw [show payOf (F := F) m c (.inr (0, (0, d, 0, q))) 0 = iprop(emp) from rfl]
  iintro _ Ho Hz
  iapply Hk $$ Ho Hz

theorem w_rss (t : Fin 2) (t₀ t₁ : Fin 3) (h₀ : t.castSucc = t₀) (h₁ : t.succ = t₁) (hs : s = xsem 0 (0, d, t₁, q)) (hN : dst.view.dmaCredit = N)
    (hl : ∀ p ∈ pays.drop nP, lvS (csem (.inr (0, (0, d, t₁, q)))) < lvK p.2) (hz : zord.getD nZ (.inl 0) = .inr (0, (0, d, t₁, q))) :
    ctx (F := F) m K ⊢ iprop(WT (F := F) c 0 (0, d, t₁, q) -∗ owd c nP -∗ zs c nZ
      -∗ (rA c d q t₀ -∗ owd c nP -∗ zs c (nZ + 1) -∗ run c (kt ⟨⟩) Kt) -∗ run c (.op (.waitDma2 s src dst hsrc hdst) kt) Kt) := by
  subst h₀ h₁
  iintro Hctx Hw Ho Hz Hk
  iapply (waitx_step m K c 0 (0, d, t.succ, q) nP nZ hs hN hl hz) $$ Hctx Hw Ho Hz
  have e : payOf (F := F) m c (.inr (0, (0, d, t.succ, q))) 0 = rA c d q t.castSucc := by
    match t with
    | 0 => rfl
    | 1 => rfl
  rw [e]
  iexact Hk

theorem w_ag (t : Fin 3) (i : ℕ) (hi : t.val = i) (hs : s = xsem 1 (1, d, t, q)) (hN : dst.view.dmaCredit = N)
    (hl : ∀ p ∈ pays.drop nP, lvS (csem (.inr (1, (1, d, t, q)))) < lvK p.2) (hz : zord.getD nZ (.inl 0) = .inr (1, (1, d, t, q))) :
    ctx (F := F) m K ⊢ iprop(WT (F := F) c 1 (1, d, t, q) -∗ owd c nP -∗ zs c nZ
      -∗ (hP c (ch d c i) d q fullShare (acc m d (ch d c i) q 3) -∗ rest d (ch d c i) q i -∗ owd c nP -∗ zs c (nZ + 1) -∗ run c (kt ⟨⟩) Kt)
      -∗ run c (.op (.waitDma2 s src dst hsrc hdst) kt) Kt) := by
  subst hi
  iintro Hctx Hw Ho Hz Hk
  iapply (waitx_step m K c 1 (1, d, t, q) nP nZ hs hN hl hz) $$ Hctx Hw Ho Hz
  rw [show payOf (F := F) m c (.inr (1, (1, d, t, q))) 0
    = iprop(hP c (ch d c t.val) d q fullShare (acc m d (ch d c t.val) q 3) ∗ rest d (ch d c t.val) q t.val) from rfl]
  iintro ⟨H1, H2⟩ Ho Hz
  iapply Hk $$ H1 H2 Ho Hz

/-- The half share of a block comes back: the slot is whole again. -/
theorem w_ags (t : Fin 3) (j : ℕ) (hj : ch d c (t.val + 3) = ch d c j) (hs : s = xsem 0 (1, d, t, q)) (hN : dst.view.dmaCredit = N)
    (hl : ∀ p ∈ pays.drop nP, lvS (csem (.inr (0, (1, d, t, q)))) < lvK p.2) (hz : zord.getD nZ (.inl 0) = .inr (0, (1, d, t, q))) :
    ctx (F := F) m K ⊢ iprop(WT (F := F) c 0 (1, d, t, q) -∗ hP c (ch d c j) d q fullShare.right (acc m d (ch d c j) q 3) -∗ owd c nP -∗ zs c nZ
      -∗ (hP c (ch d c j) d q fullShare (acc m d (ch d c j) q 3) -∗ owd c nP -∗ zs c (nZ + 1) -∗ run c (kt ⟨⟩) Kt)
      -∗ run c (.op (.waitDma2 s src dst hsrc hdst) kt) Kt) := by
  iintro Hctx Hw Hr Ho Hz Hk
  iapply (waitx_step m K c 0 (1, d, t, q) nP nZ hs hN hl hz) $$ Hctx Hw Ho Hz
  rw [show payOf (F := F) m c (.inr (0, (1, d, t, q))) 0
    = hP c (ch d c (t.val + 3)) d q fullShare.left (acc m d (ch d c (t.val + 3)) q 3) from rfl, hj]
  iintro Hl Ho Hz
  iapply Hk $$ [Hl Hr] Ho Hz
  iapply (hP_split c (ch d c j) d q _).2
  isplitl [Hl]
  · iexact Hl
  iexact Hr

end Waits

section Handshakes

variable (c : Dev nD)

/-- The handshake's end gives the landing regions of both neighbours. -/
theorem w_bar (nP nZ : ℕ) {s : Sem sig} (hs : SemLoc.reg s = csem (.inl 0)) {z : ℤ} (hk : z = 2)
    (hl : ∀ p ∈ pays.drop nP, lvS (csem (.inl 0)) < lvK p.2) (hz : zord.getD nZ (.inl 0) = .inl 0) :
    ctx (F := F) m K ⊢ iprop(atPos ER (kcell (c, .inl 0)) 0 ∅ 0 -∗ cred (tallyAt (kcell (c, .inl 0)) () 2) -∗ owd c nP -∗ zs c nZ
      -∗ (regions (nx 0 c) 0 -∗ regions (nx 1 c) 1 -∗ owd c nP -∗ zs c (nZ + 1) -∗ run c (kt ⟨⟩) Kt)
      -∗ run c (.op (.semWait s z) kt) Kt) := by
  iintro Hctx Ha Hc Ho Hz Hk
  iapply (waitr_step m K c 0 nP nZ hs hk hl hz) $$ Hctx Ha Hc Ho Hz
  rw [show payOf (F := F) m c (.inl 0) 0 = regions (nx 0 c) 0 from rfl, show payOf (F := F) m c (.inl 0) 1 = regions (nx 1 c) 1 from rfl]
  iintro ⟨H1, H2⟩ Ho Hz
  iapply Hk $$ H1 H2 Ho Hz
theorem w_fin (nP nZ : ℕ) {s : Sem sig} (hs : SemLoc.reg s = csem (.inl 1)) {z : ℤ} (hk : z = 2)
    (hl : ∀ p ∈ pays.drop nP, lvS (csem (.inl 1)) < lvK p.2) (hz : zord.getD nZ (.inl 0) = .inl 1) :
    ctx (F := F) m K ⊢ iprop(atPos ER (kcell (c, .inl 1)) 0 ∅ 0 -∗ cred (tallyAt (kcell (c, .inl 1)) () 2) -∗ owd c nP -∗ zs c nZ
      -∗ (owd c nP -∗ zs c (nZ + 1) -∗ run c (kt ⟨⟩) Kt) -∗ run c (.op (.semWait s z) kt) Kt) := by
  iintro Hctx Ha Hc Ho Hz Hk
  iapply (waitr_step m K c 1 nP nZ hs hk hl hz) $$ Hctx Ha Hc Ho Hz
  iintro _ Ho Hz
  iapply Hk $$ Ho Hz
theorem s_bar (n : Dev nD) (d e : Fin 2) (nP : ℕ) (hn : n = nx d c) (he : ∀ c : Dev nD, nx e (nx d c) = c) {s : Sem sig} (hs : SemLoc.reg s = csem (.inl 0))
    (hp : pays.drop nP = (d, .inl 0) :: pays.drop (nP + 1)) {z : ℤ} (hk : z = 1) :
    ctx (F := F) m K ⊢ iprop(dutyTok ER (kcell (nx d c, .inl 0)) 0 e -∗ regions c e -∗ owd c nP
      -∗ (owd c (nP + 1) -∗ run c (kt ⟨⟩) Kt) -∗ run c (.op (.semSignal (n, .tc) s z) kt) Kt) := by
  have key := signal_step (Kt := Kt) (kt := kt) m K c n d 0 e nP hn hs hp hk
  rw [show payOf (F := F) m (nx d c) (.inl 0) e = regions c e from by
    show regions (nx e (nx d c)) e = _
    rw [he]] at key
  exact key
theorem s_fin (n : Dev nD) (d e : Fin 2) (nP : ℕ) (hn : n = nx d c) {s : Sem sig} (hs : SemLoc.reg s = csem (.inl 1))
    (hp : pays.drop nP = (d, .inl 1) :: pays.drop (nP + 1)) {z : ℤ} (hk : z = 1) :
    ctx (F := F) m K ⊢ iprop(dutyTok ER (kcell (nx d c, .inl 1)) 0 e -∗ owd c nP
      -∗ (owd c (nP + 1) -∗ run c (kt ⟨⟩) Kt) -∗ run c (.op (.semSignal (n, .tc) s z) kt) Kt) := by
  iintro Hctx Hd Ho Hk
  iapply (signal_step m K c n d 1 e nP hn hs hp hk) $$ Hctx Hd [] Ho Hk
  rw [show payOf (F := F) m (nx d c) (.inl 1) e = iprop(emp) from rfl]
  iempintro

end Handshakes

end Cert.Duplex
-- ==== Proof.Phases.lean ====
module

public import proofs.«01_k».proof.Proof.Moves

@[expose] public section

noncomputable section

namespace Cert.Duplex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CK → ℕ)

variable {α : Type} {Kt : α → sProp (MT nD τ sig Unit (Elt F) ℕ UU ℕ)} {kt : PUnit → Prog (TpuEff nD τ sig (Elt F) Λ₀ .tc) α}

/-! ## The program's offsets and neighbours -/

theorem off1_at : ∀ (c : Dev nD) (d q : Fin 2), k0_off1 c (BitVec.ofNat 32 (512 * d.val)) (BitVec.ofNat 32 (256 * q.val)) = xoff (ch d c 0) d q := by decide +kernel
theorem off2_at : ∀ (c : Dev nD) (d q : Fin 2), k0_off2 c (BitVec.ofNat 32 (2 * d.val)) (BitVec.ofNat 32 q.val) = hoff (ch d c 0) d q := by decide +kernel
theorem off3_at : ∀ (c : Dev nD) (d q : Fin 2), k0_off3 c (BitVec.ofNat 32 (2 * d.val)) (BitVec.ofNat 32 q.val) = hoff (ch d c 0) d q := by decide +kernel
theorem off4_at : ∀ (c : Dev nD) (d q : Fin 2), k0_off4 c (BitVec.ofNat 32 (512 * d.val)) (BitVec.ofNat 32 (256 * q.val)) = xoff (ch d c (1 + 2 * d.val)) d q := by decide +kernel
theorem off5_at : ∀ (c : Dev nD) (d q : Fin 2), k0_off5 c (BitVec.ofNat 32 (2 * d.val)) (BitVec.ofNat 32 q.val) = hoff (ch d c (1 + 2 * d.val)) d q := by decide +kernel
theorem off6_at1 : ∀ (c : Dev nD) (d q : Fin 2), k0_off6 c 1#32 (BitVec.ofNat 32 (512 * d.val)) (BitVec.ofNat 32 (256 * q.val)) = xoff (ch d c (3 - 2 * d.val)) d q := by decide +kernel
theorem off6_at2 : ∀ (c : Dev nD) (d q : Fin 2), k0_off6 c 2#32 (BitVec.ofNat 32 (512 * d.val)) (BitVec.ofNat 32 (256 * q.val)) = xoff (ch d c 2) d q := by decide +kernel
theorem off7_at1 : ∀ (c : Dev nD) (d q : Fin 2), k0_off7 c 1#32 (BitVec.ofNat 32 (2 * d.val)) (BitVec.ofNat 32 q.val) = hoff (ch d c (3 - 2 * d.val)) d q := by decide +kernel
theorem off7_at2 : ∀ (c : Dev nD) (d q : Fin 2), k0_off7 c 2#32 (BitVec.ofNat 32 (2 * d.val)) (BitVec.ofNat 32 q.val) = hoff (ch d c 2) d q := by decide +kernel
theorem off8_at : ∀ (c : Dev nD) (s q : Fin 2), k0_off8 c (BitVec.ofNat 32 s.val) (BitVec.ofNat 32 q.val) = hoff (ch 0 c (s.val + 1)) 0 q := by decide +kernel
theorem off9_at : ∀ (c : Dev nD) (s q : Fin 2), k0_off9 c (BitVec.ofNat 32 s.val) (BitVec.ofNat 32 q.val) = hoff (ch 1 c (s.val + 1)) 1 q := by decide +kernel
theorem off10_at : ∀ (c : Dev nD) (t : Fin 3) (q : Fin 2), k0_off10 c (BitVec.ofNat 32 t.val) (BitVec.ofNat 32 q.val) = hoff (ch 0 c ((t.val + 3) % 4)) 0 q := by decide +kernel
theorem off11_at : ∀ (c : Dev nD) (t : Fin 3) (q : Fin 2), k0_off11 c (BitVec.ofNat 32 t.val) (BitVec.ofNat 32 q.val) = hoff (ch 1 c ((t.val + 3) % 4)) 1 q := by decide +kernel

theorem dev_nx (d : Fin 2) (c : Dev nD) {n : ℕ} {h : n < nD} (e : n = (c.val + (1 + 2 * d.val)) % 4) : (⟨n, h⟩ : Dev nD) = nx d c := by
  refine Fin.ext ?_
  show n = (c.val + 1 + 2 * d.val) % 4
  rw [e, Nat.add_assoc]

theorem hin {k : Fin 4} {d q : Fin 2} {off : Fin 3 → ℕ} (h : off = hoff k d q) : ∀ a, off a + S1x256x1024.size a ≤ S16x256x1024.size a := by
  rw [h]; exact hoff_inb k d q
theorem rin {s : Fin 3} {d q : Fin 2} {off : Fin 2 → ℕ} (h : off = roff s d q) : ∀ a, off a + S256x1024.size a ≤ S3072x1024.size a := by
  rw [h]; exact roff_inb s d q
theorem xin {k : Fin 4} {d q : Fin 2} {off : Fin 2 → ℕ} (h : off = xoff k d q) : ∀ a, off a + S256x1024.size a ≤ S4096x1024.size a := by
  rw [h]; exact xoff_inb k d q

/-! ## The two products -/

/-- One piece of the first product: two loads, the stored slot's unused load, the store. -/
theorem mm1 {kt : Vec F S256x1024 .f32 → Vec F S1024x1024 .f32 → Vec F S1x256x1024 .bf16 → PUnit → Prog (TpuEff nD τ sig (Elt F) Λ₀ .tc) α} (c : Dev nD) (k : Fin 4) (d q : Fin 2) {off : Fin 2 → ℕ} {off' : Fin 3 → ℕ} (ho : off = xoff k d q) (ho' : off' = hoff k d q)
    {inb : ∀ a, off a + S256x1024.size a ≤ S4096x1024.size a} {hl : xM.view.LoadsAt (Rect.unit (s := S4096x1024) off S256x1024.size inb).toLoadRect}
    {inb1 : ∀ a, (![0, 0] : Fin 2 → ℕ) a + S1024x1024.size a ≤ S1024x1024.size a}
    {hl1 : Vec F S256x1024 .f32 → w1M.view.LoadsAt (Rect.unit (s := S1024x1024) ![0, 0] S1024x1024.size inb1).toLoadRect}
    {hl' : Vec F S256x1024 .f32 → Vec F S1024x1024 .f32 → hM.view.LoadsAt (Rect.unit (s := S16x256x1024) off' S1x256x1024.size (hin ho')).toLoadRect}
    {hx : Vec F S256x1024 .f32 → Vec F S1024x1024 .f32 → Vec F S1x256x1024 .bf16 → (hM.access (Rect.unit (s := S16x256x1024) off' S1x256x1024.size (hin ho'))).Stores Finset.univ}
    {hm : Vec F S256x1024 .f32 → Vec F S1024x1024 .f32 → Vec F S1x256x1024 .bf16 → ((Finset.univ : Finset (Rect.unit (s := S16x256x1024) off' S1x256x1024.size (hin ho')).shape.Idx) = Finset.univ
      ∨ ∀ a, (Rect.unit (s := S16x256x1024) off' S1x256x1024.size (hin ho')).stride a = 1)} :
    xW m c ⊢ iprop(w1W m c -∗ hA c k d q
      -∗ (xW m c -∗ w1W m c -∗ hP c k d q fullShare (gp m c k d q) -∗ ∀ a b y, run c (kt a b y ⟨⟩) Kt)
      -∗ run c (.op (.load xM (Rect.unit (s := S4096x1024) off S256x1024.size inb).toLoadRect hl) fun (a : Vec F S256x1024 .f32) =>
          .op (.load w1M (Rect.unit (s := S1024x1024) ![0, 0] S1024x1024.size inb1).toLoadRect (hl1 a)) fun (b : Vec F S1024x1024 .f32) =>
          .op (.load hM (Rect.unit (s := S16x256x1024) off' S1x256x1024.size (hin ho')).toLoadRect (hl' a b)) fun (y2 : Vec F S1x256x1024 .bf16) =>
          .op (.store hM (Rect.unit (s := S16x256x1024) off' S1x256x1024.size (hin ho')) (k0_pay3 a b) Finset.univ (hx a b y2) (hm a b y2)) (kt a b y2)) Kt) := by
  iintro Hx Hw Hh Hk
  iapply (ld_x m c k d q ho) $$ Hx
  iintro Hx
  iapply (ld_w1 m c) $$ Hw
  iintro Hw
  iapply (ld_hA c ho') $$ Hh
  iintro Hh %X
  iapply (st_h c (v := gp m c k d q) ho' rfl) $$ Hh
  iintro Hh
  iapply Hk $$ Hx Hw Hh

/-- One piece of the second product. -/
theorem mm2 {kt : Vec F S1x256x1024 .bf16 → Vec F S1024x1024 .bf16 → Vec F S256x1024 .f32 → PUnit → Prog (TpuEff nD τ sig (Elt F) Λ₀ .tc) α} (c : Dev nD) (k : Fin 4) (d q : Fin 2) (sh : PosShare TreeShare) {off : Fin 2 → ℕ} {off' : Fin 3 → ℕ} (ho' : off' = hoff k d q) (ho : off = xoff k d q)
    {hl : Vec F S1x256x1024 .bf16 → Vec F S1024x1024 .bf16 → oM.view.LoadsAt (Rect.unit (s := S4096x1024) off S256x1024.size (xin ho)).toLoadRect}
    {inb1 : ∀ a, (![0, 0] : Fin 2 → ℕ) a + S1024x1024.size a ≤ S1024x1024.size a}
    {hl1 : Vec F S1x256x1024 .bf16 → w2bM.view.LoadsAt (Rect.unit (s := S1024x1024) ![0, 0] S1024x1024.size inb1).toLoadRect}
    {inb' : ∀ a, off' a + S1x256x1024.size a ≤ S16x256x1024.size a} {hl' : hM.view.LoadsAt (Rect.unit (s := S16x256x1024) off' S1x256x1024.size inb').toLoadRect}
    {hx : Vec F S1x256x1024 .bf16 → Vec F S1024x1024 .bf16 → Vec F S256x1024 .f32 → (oM.access (Rect.unit (s := S4096x1024) off S256x1024.size (xin ho))).Stores Finset.univ}
    {hm : Vec F S1x256x1024 .bf16 → Vec F S1024x1024 .bf16 → Vec F S256x1024 .f32 → ((Finset.univ : Finset (Rect.unit (s := S4096x1024) off S256x1024.size (xin ho)).shape.Idx) = Finset.univ
      ∨ ∀ a, (Rect.unit (s := S4096x1024) off S256x1024.size (xin ho)).stride a = 1)} :
    hP (F := F) c k d q sh (acc m d k q 3) ⊢ iprop(wbP m c -∗ oA c k d q
      -∗ (hP c k d q sh (acc m d k q 3) -∗ wbP m c -∗ oP c k d q (outp m c k d q) -∗ ∀ a b y, run c (kt a b y ⟨⟩) Kt)
      -∗ run c (.op (.load hM (Rect.unit (s := S16x256x1024) off' S1x256x1024.size inb').toLoadRect hl') fun (a : Vec F S1x256x1024 .bf16) =>
          .op (.load w2bM (Rect.unit (s := S1024x1024) ![0, 0] S1024x1024.size inb1).toLoadRect (hl1 a)) fun (b : Vec F S1024x1024 .bf16) =>
          .op (.load oM (Rect.unit (s := S4096x1024) off S256x1024.size (xin ho)).toLoadRect (hl a b)) fun (y2 : Vec F S256x1024 .f32) =>
          .op (.store oM (Rect.unit (s := S4096x1024) off S256x1024.size (xin ho)) (k0_pay39 a b) Finset.univ (hx a b y2) (hm a b y2)) (kt a b y2)) Kt) := by
  iintro Hh Hw Ho Hk
  iapply (ld_h c ho') $$ Hh
  iintro Hh
  iapply (ld_wb m c) $$ Hw
  iintro Hw
  iapply (ld_oA c ho) $$ Ho
  iintro Ho %X
  iapply (st_o c (v := outp m c k d q) ho (out_mm m c k d q)) $$ Ho
  iintro Ho
  iapply Hk $$ Hh Hw Ho

/-! ## The steps of the sum and of the spread -/

section Steps

variable (c : Dev nD) {n : Dev nD} (d q : Fin 2) (nP nZ : ℕ) {sW sS sR : DmaSem sig}

/-- A partial sum arrives, this device adds its own partial product, and the sum goes on. -/
theorem step_mid {kt : Unit → Vec F S256x1024 .bf16 → Vec F S1x256x1024 .bf16 → Vec F S256x1024 .bf16 → Unit → PUnit → Prog (TpuEff nD τ sig (Elt F) Λ₀ .tc) α} (s : Fin 2) (s₀ s₁ : Fin 3) (i j : ℕ) (h₀ : s.castSucc = s₀) (h₁ : s.succ = s₁) (hi : s.val = i) (hj : s.val + 1 = j)
    {src dst : Memref sig .tc .vmem S256x1024 .bf16} {hsw : src.view.WordExact} {hdw : dst.view.WordExact}
    (hs0 : sW = xsem 1 (0, d, s₀, q)) (hN : dst.view.dmaCredit = N)
    (hl : ∀ p ∈ pays.drop nP, lvS (csem (.inr (1, (0, d, s₀, q)))) < lvK p.2) (hz : zord.getD nZ (.inl 0) = .inr (1, (0, d, s₀, q)))
    (hn : n = nx d c) {offr off' : Fin 2 → ℕ} {offh : Fin 3 → ℕ} (ho : offr = roff s₀ d q) (ho' : off' = roff s₁ d q) (hoh : offh = hoff (ch d c j) d q)
    (hs : sS = xsem 0 (0, d, s₁, q)) (hr : sR = xsem 1 (0, d, s₁, q)) (hp : pays.drop nP = (d, .inr (1, (0, d, s₁, q))) :: pays.drop (nP + 1))

    {hlr : Unit → rM.view.LoadsAt (Rect.unit (s := S3072x1024) offr S256x1024.size (rin ho)).toLoadRect} {hlr' : Unit → Vec F S256x1024 .bf16 → Vec F S1x256x1024 .bf16 → rM.view.LoadsAt (Rect.unit (s := S3072x1024) offr S256x1024.size (rin ho)).toLoadRect}
    {hlh : Unit → Vec F S256x1024 .bf16 → hM.view.LoadsAt (Rect.unit (s := S16x256x1024) offh S1x256x1024.size (hin hoh)).toLoadRect}
    {hx : Unit → Vec F S256x1024 .bf16 → Vec F S1x256x1024 .bf16 → Vec F S256x1024 .bf16 → (rM.access (Rect.unit (s := S3072x1024) offr S256x1024.size (rin ho))).Stores Finset.univ}
    {hm : Unit → Vec F S256x1024 .bf16 → Vec F S1x256x1024 .bf16 → Vec F S256x1024 .bf16 → ((Finset.univ : Finset (Rect.unit (s := S3072x1024) offr S256x1024.size (rin ho)).shape.Idx) = Finset.univ
      ∨ ∀ a, (Rect.unit (s := S3072x1024) offr S256x1024.size (rin ho)).stride a = 1)}
    {hsc : Unit → Vec F S256x1024 .bf16 → Vec F S1x256x1024 .bf16 → Vec F S256x1024 .bf16 → Unit → (rprog off' (rin ho')).view.ref.isScScratch = false} {hsrc : Unit → Vec F S256x1024 .bf16 → Vec F S1x256x1024 .bf16 → Vec F S256x1024 .bf16 → Unit → (rprog offr (rin ho)).view.WordExact} {hdst : Unit → Vec F S256x1024 .bf16 → Vec F S1x256x1024 .bf16 → Vec F S256x1024 .bf16 → Unit → (rprog off' (rin ho')).view.WordExact}
    {hsem : ∀ (y0 : Unit) (a : Vec F S256x1024 .bf16) (b : Vec F S1x256x1024 .bf16) (y3 : Vec F S256x1024 .bf16) (y4 : Unit), DmaTarget.Typed .vmem (.dma sR) (.remote (Dev.tc n : Thread nD τ) (rprog off' (rin ho')) (.dma sS) (hsc y0 a b y3 y4))} :
    ctx (F := F) m K ⊢ iprop(WT (F := F) c 1 (0, d, s₀, q) -∗ hP c (ch d c j) d q fullShare (gp m c (ch d c j) d q)
      -∗ SB (F := F) c (0, d, s₁, q) -∗ rA (nx d c) d q s₁ -∗ owd c nP -∗ zs c nZ
      -∗ (WT c 0 (0, d, s₁, q) -∗ owd c (nP + 1) -∗ zs c (nZ + 1) -∗ ∀ a b y, run c (kt ⟨⟩ a b y ⟨⟩ ⟨⟩) Kt)
      -∗ run c (.op (.waitDma2 sW src dst hsw hdw) fun (y0 : Unit) =>
          .op (.load rM (Rect.unit (s := S3072x1024) offr S256x1024.size (rin ho)).toLoadRect (hlr y0)) fun (a : Vec F S256x1024 .bf16) =>
          .op (.load hM (Rect.unit (s := S16x256x1024) offh S1x256x1024.size (hin hoh)).toLoadRect (hlh y0 a)) fun (b : Vec F S1x256x1024 .bf16) =>
          .op (.load rM (Rect.unit (s := S3072x1024) offr S256x1024.size (rin ho)).toLoadRect (hlr' y0 a b)) fun (y3 : Vec F S256x1024 .bf16) =>
          .op (.store rM (Rect.unit (s := S3072x1024) offr S256x1024.size (rin ho)) (k0_pay19 a b) Finset.univ (hx y0 a b y3) (hm y0 a b y3)) fun (y4 : Unit) =>
          .op (.enqueueDma (rprog offr (rin ho)) (.remote (Dev.tc n : Thread nD τ) (rprog off' (rin ho')) (.dma sS) (hsc y0 a b y3 y4)) (.dma sR) (hsrc y0 a b y3 y4) (hdst y0 a b y3 y4) (hsem y0 a b y3 y4)) (kt y0 a b y3 y4)) Kt) := by
  iintro #Hctx Hw Hh Hsb Hr Ho Hz Hk
  iapply (w_rs m K c d q nP nZ s₀ i j (by rw [← h₀]; exact hi) (by rw [← h₀]; exact hj) hs0 hN hl hz) $$ Hctx Hw Ho Hz
  iintro Hp Hheld Ho Hz
  iapply (ld_r c ho) $$ Hp
  iintro Hp
  iapply (ld_h c hoh) $$ Hh
  iintro Hh
  iapply (ld_r c ho) $$ Hp
  iintro Hp
  iapply (st_r c (v := acc m d (ch d c j) q j) ho (by subst hi hj; exact acc_mid m c d q s.castSucc)) $$ Hp
  iintro Hp
  ihave Hh := (hP_hA c (ch d c j) d q _) $$ Hh
  iapply (rs_n m K c d q nP s s₀ s₁ i j h₀ h₁ hi hj hn ho ho' hs hr hp) $$ Hctx Hsb Hp Hheld Hh Hr Ho
  iintro Hw Ho
  iapply Hk $$ Hw Ho Hz

/-- The last partial sum arrives; the chunk is finished, and the device spreads it. -/
theorem step_fin {kt : Unit → Vec F S256x1024 .bf16 → Vec F S1x256x1024 .bf16 → Vec F S1x256x1024 .bf16 → Unit → PUnit → Prog (TpuEff nD τ sig (Elt F) Λ₀ .tc) α} {src dst : Memref sig .tc .vmem S256x1024 .bf16} {hsw : src.view.WordExact} {hdw : dst.view.WordExact}
    (hs0 : sW = xsem 1 (0, d, 2, q)) (hN : dst.view.dmaCredit = N)
    (hl : ∀ p ∈ pays.drop nP, lvS (csem (.inr (1, (0, d, 2, q)))) < lvK p.2) (hz : zord.getD nZ (.inl 0) = .inr (1, (0, d, 2, q)))
    (hn : n = nx d c) {offr : Fin 2 → ℕ} {offh off off' : Fin 3 → ℕ} (ho : offr = roff 2 d q) (hoh : offh = hoff (ch d c 3) d q)
    (hof : off = hoff (ch d c 3) d q) (hof' : off' = hoff (ch d c 3) d q)
    (hs : sS = xsem 0 (1, d, 0, q)) (hr : sR = xsem 1 (1, d, 0, q)) (hp : pays.drop nP = (d, .inr (1, (1, d, 0, q))) :: pays.drop (nP + 1))

    {hlr : Unit → rM.view.LoadsAt (Rect.unit (s := S3072x1024) offr S256x1024.size (rin ho)).toLoadRect}
    {hlh : Unit → Vec F S256x1024 .bf16 → hM.view.LoadsAt (Rect.unit (s := S16x256x1024) offh S1x256x1024.size (hin hoh)).toLoadRect} {hlh' : Unit → Vec F S256x1024 .bf16 → Vec F S1x256x1024 .bf16 → hM.view.LoadsAt (Rect.unit (s := S16x256x1024) offh S1x256x1024.size (hin hoh)).toLoadRect}
    {hx : Unit → Vec F S256x1024 .bf16 → Vec F S1x256x1024 .bf16 → Vec F S1x256x1024 .bf16 → (hM.access (Rect.unit (s := S16x256x1024) offh S1x256x1024.size (hin hoh))).Stores Finset.univ}
    {hm : Unit → Vec F S256x1024 .bf16 → Vec F S1x256x1024 .bf16 → Vec F S1x256x1024 .bf16 → ((Finset.univ : Finset (Rect.unit (s := S16x256x1024) offh S1x256x1024.size (hin hoh)).shape.Idx) = Finset.univ
      ∨ ∀ a, (Rect.unit (s := S16x256x1024) offh S1x256x1024.size (hin hoh)).stride a = 1)}
    {hsc : Unit → Vec F S256x1024 .bf16 → Vec F S1x256x1024 .bf16 → Vec F S1x256x1024 .bf16 → Unit → (hprog off' (hin hof')).view.ref.isScScratch = false} {hsrc : Unit → Vec F S256x1024 .bf16 → Vec F S1x256x1024 .bf16 → Vec F S1x256x1024 .bf16 → Unit → (hprog off (hin hof)).view.WordExact} {hdst : Unit → Vec F S256x1024 .bf16 → Vec F S1x256x1024 .bf16 → Vec F S1x256x1024 .bf16 → Unit → (hprog off' (hin hof')).view.WordExact}
    {hsem : ∀ (y0 : Unit) (a : Vec F S256x1024 .bf16) (b : Vec F S1x256x1024 .bf16) (y3 : Vec F S1x256x1024 .bf16) (y4 : Unit), DmaTarget.Typed .vmem (.dma sR) (.remote (Dev.tc n : Thread nD τ) (hprog off' (hin hof')) (.dma sS) (hsc y0 a b y3 y4))} :
    ctx (F := F) m K ⊢ iprop(WT (F := F) c 1 (0, d, 2, q) -∗ hP c (ch d c 3) d q fullShare (gp m c (ch d c 3) d q)
      -∗ SB (F := F) c (1, d, 0, q) -∗ owd c nP -∗ zs c nZ
      -∗ (rA c d q 2 -∗ WT c 0 (1, d, 0, q) -∗ hP c (ch d c 3) d q fullShare.right (acc m d (ch d c 3) q 3) -∗ owd c (nP + 1) -∗ zs c (nZ + 1) -∗ ∀ a b y, run c (kt ⟨⟩ a b y ⟨⟩ ⟨⟩) Kt)
      -∗ run c (.op (.waitDma2 sW src dst hsw hdw) fun (y0 : Unit) =>
          .op (.load rM (Rect.unit (s := S3072x1024) offr S256x1024.size (rin ho)).toLoadRect (hlr y0)) fun (a : Vec F S256x1024 .bf16) =>
          .op (.load hM (Rect.unit (s := S16x256x1024) offh S1x256x1024.size (hin hoh)).toLoadRect (hlh y0 a)) fun (b : Vec F S1x256x1024 .bf16) =>
          .op (.load hM (Rect.unit (s := S16x256x1024) offh S1x256x1024.size (hin hoh)).toLoadRect (hlh' y0 a b)) fun (y3 : Vec F S1x256x1024 .bf16) =>
          .op (.store hM (Rect.unit (s := S16x256x1024) offh S1x256x1024.size (hin hoh)) (k0_pay34 a b) Finset.univ (hx y0 a b y3) (hm y0 a b y3)) fun (y4 : Unit) =>
          .op (.enqueueDma (hprog off (hin hof)) (.remote (Dev.tc n : Thread nD τ) (hprog off' (hin hof')) (.dma sS) (hsc y0 a b y3 y4)) (.dma sR) (hsrc y0 a b y3 y4) (hdst y0 a b y3 y4) (hsem y0 a b y3 y4)) (kt y0 a b y3 y4)) Kt) := by
  iintro #Hctx Hw Hh Hsb Ho Hz Hk
  iapply (w_rs m K c d q nP nZ 2 2 3 rfl rfl hs0 hN hl hz) $$ Hctx Hw Ho Hz
  iintro Hp Hheld Ho Hz
  iapply (ld_r c ho) $$ Hp
  iintro Hp
  iapply (ld_h c hoh) $$ Hh
  iintro Hh
  iapply (ld_h c hoh) $$ Hh
  iintro Hh
  ihave Hh := (hP_hA c (ch d c 3) d q _) $$ Hh
  iapply (st_h c (v := acc m d (ch d c 3) q 3) hoh (acc_fin m c d q)) $$ Hh
  iintro Hh
  ihave Hp := (rP_rA c d q 2 _) $$ Hp
  iapply (ag m K c d q nP 3 0 (held d (ch d c 3) q 2) rfl ((by decide : ∀ (d : Fin 2) (c : Dev nD), ch d (nx d c) 0 = ch d c 3) d c) (heldR c d q)
    hn hof hof' hs hr hp) $$ Hctx Hsb Hh Hheld Ho
  iintro Hw Hh Ho
  iapply Hk $$ Hp Hw Hh Ho Hz

/-- A finished chunk arrives and goes on. -/
theorem step_fwd {kt : Unit → PUnit → Prog (TpuEff nD τ sig (Elt F) Λ₀ .tc) α} (t : Fin 2) (t₀ t₁ : Fin 3) (j : ℕ) (h₀ : t.castSucc = t₀) (h₁ : t.succ = t₁) (hj : t.val = j)
    {src dst : Memref sig .tc .vmem S256x1024 .bf16} {hsw : src.view.WordExact} {hdw : dst.view.WordExact}
    (hs0 : sW = xsem 1 (1, d, t₀, q)) (hN : dst.view.dmaCredit = N)
    (hl : ∀ p ∈ pays.drop nP, lvS (csem (.inr (1, (1, d, t₀, q)))) < lvK p.2) (hz : zord.getD nZ (.inl 0) = .inr (1, (1, d, t₀, q)))
    (hn : n = nx d c) {off off' : Fin 3 → ℕ} (hof : off = hoff (ch d c j) d q) (hof' : off' = hoff (ch d c j) d q)
    (hs : sS = xsem 0 (1, d, t₁, q)) (hr : sR = xsem 1 (1, d, t₁, q)) (hp : pays.drop nP = (d, .inr (1, (1, d, t₁, q))) :: pays.drop (nP + 1))
    {hsc : Unit → (hprog off' (hin hof')).view.ref.isScScratch = false} {hsrc : Unit → (hprog off (hin hof)).view.WordExact} {hdst : Unit → (hprog off' (hin hof')).view.WordExact}
    {hsem : ∀ (y0 : Unit), DmaTarget.Typed .vmem (.dma sR) (.remote (Dev.tc n : Thread nD τ) (hprog off' (hin hof')) (.dma sS) (hsc y0))} :
    ctx (F := F) m K ⊢ iprop(WT (F := F) c 1 (1, d, t₀, q) -∗ SB (F := F) c (1, d, t₁, q) -∗ owd c nP -∗ zs c nZ
      -∗ (WT c 0 (1, d, t₁, q) -∗ hP c (ch d c j) d q fullShare.right (acc m d (ch d c j) q 3) -∗ owd c (nP + 1) -∗ zs c (nZ + 1) -∗ run c (kt ⟨⟩ ⟨⟩) Kt)
      -∗ run c (.op (.waitDma2 sW src dst hsw hdw) fun (y0 : Unit) =>
          .op (.enqueueDma (hprog off (hin hof)) (.remote (Dev.tc n : Thread nD τ) (hprog off' (hin hof')) (.dma sS) (hsc y0)) (.dma sR) (hsrc y0) (hdst y0) (hsem y0)) (kt y0)) Kt) := by
  iintro #Hctx Hw Hsb Ho Hz Hk
  iapply (w_ag m K c d q nP nZ t₀ j (by rw [← h₀]; exact hj) hs0 hN hl hz) $$ Hctx Hw Ho Hz
  iintro Hh Hrest Ho Hz
  iapply (ag m K c d q nP j t₁ (rest d (ch d c j) q j)
    (by subst h₁ hj; exact (by decide : ∀ (d t : Fin 2) (c : Dev nD), ch d c (t.succ.val + 3) = ch d c t.val) d t c)
    (by subst h₁ hj; exact (by decide : ∀ (d t : Fin 2) (c : Dev nD), ch d (nx d c) t.succ.val = ch d c t.val) d t c)
    (by
      subst h₁ hj
      match t with
      | 0 => exact restR0 c d q
      | 1 => exact restR1 c d q)
    hn hof hof' hs hr hp) $$ Hctx Hsb Hh Hrest Ho
  iintro Hw Hh Ho
  iapply Hk $$ Hw Hh Ho Hz

end Steps

end Cert.Duplex
-- ==== Proof.Body.lean ====
module

public import proofs.«01_k».proof.Proof.Phases

@[expose] public section

noncomputable section

namespace Cert.Duplex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CK → ℕ)

/-- One cell for each direction and half. -/
abbrev all4 (Φ : Fin 2 → Fin 2 → sProp (MT nD τ sig Unit (Elt F) ℕ UU ℕ)) : sProp (MT nD τ sig Unit (Elt F) ℕ UU ℕ) :=
  iprop(Φ 0 0 ∗ Φ 1 0 ∗ Φ 0 1 ∗ Φ 1 1)
abbrev all16 (Φ : ℕ → Fin 2 → Fin 2 → sProp (MT nD τ sig Unit (Elt F) ℕ UU ℕ)) : sProp (MT nD τ sig Unit (Elt F) ℕ UU ℕ) :=
  iprop(all4 (Φ 0) ∗ all4 (Φ 1) ∗ all4 (Φ 2) ∗ all4 (Φ 3))
/-- One cell for each transfer. -/
abbrev all24 (Φ : XT → sProp (MT nD τ sig Unit (Elt F) ℕ UU ℕ)) : sProp (MT nD τ sig Unit (Elt F) ℕ UU ℕ) :=
  iprop((all4 (fun d q => Φ (0, d, 0, q)) ∗ all4 (fun d q => Φ (0, d, 1, q)) ∗ all4 (fun d q => Φ (0, d, 2, q)))
    ∗ (all4 (fun d q => Φ (1, d, 0, q)) ∗ all4 (fun d q => Φ (1, d, 1, q)) ∗ all4 (fun d q => Φ (1, d, 2, q))))

/-- What a handshake needs: the two tokens for the neighbours, the own position, the own credit. -/
abbrev hand (c : Dev nD) (i : Fin 2) : sProp (MT nD τ sig Unit (Elt F) ℕ UU ℕ) :=
  iprop(dutyTok ER (kcell (nx 1 c, .inl i)) 0 0 ∗ dutyTok ER (kcell (nx 0 c, .inl i)) 0 1 ∗ atPos ER (kcell (c, .inl i)) 0 ∅ 0
    ∗ cred (tallyAt (kcell (c, .inl i)) () 2))

/-- What a device's run begins with. -/
abbrev bodyIn (c : Dev nD) : sProp (MT nD τ sig Unit (Elt F) ℕ UU ℕ) :=
  iprop(xW m c ∗ w1W m c ∗ w2W m c ∗ wbA (F := F) c ∗ hand (F := F) c 0 ∗ hand (F := F) c 1 ∗ regions (F := F) c 0 ∗ regions (F := F) c 1
    ∗ all16 (fun j d q => hA (F := F) c (ch d c j) d q) ∗ all16 (fun j d q => oA (F := F) c (ch d c j) d q)
    ∗ all24 (fun x => SB (F := F) c x) ∗ all24 (fun x => WT (F := F) c 1 x) ∗ owd (F := F) c 0 ∗ zs (F := F) c 0)
/-- What it ends with. -/
abbrev bodyOut (c : Dev nD) : sProp (MT nD τ sig Unit (Elt F) ℕ UU ℕ) :=
  iprop(xW m c ∗ w1W m c ∗ w2W m c ∗ wbP m c ∗ (all4 (fun d q => rA (F := F) c d q 0) ∗ all4 (fun d q => rA (F := F) c d q 1) ∗ all4 (fun d q => rA (F := F) c d q 2))
    ∗ all16 (fun j d q => hP (F := F) c (ch d c j) d q fullShare (acc m d (ch d c j) q 3)) ∗ all16 (fun j d q => oP (F := F) c (ch d c j) d q (outp m c (ch d c j) d q))
    ∗ owd (F := F) c 28 ∗ zs (F := F) c 50)

theorem to_acc (c : Dev nD) (d q : Fin 2) :
    hP (F := F) c (ch d c 0) d q fullShare (gp m c (ch d c 0) d q) ⊢ hP c (ch d c 0) d q fullShare (acc m d (ch d c 0) q 0) := by
  rw [acc_zero]
/-- A finished program has its conclusion at hand. -/
theorem run_done (c : Dev nD) {Kt : PUnit → sProp (MT nD τ sig Unit (Elt F) ℕ UU ℕ)} : Kt ⟨⟩ ⊢ run c (.ret ⟨⟩) Kt := by
  unfold run
  rw [wp_ret]
  iintro H
  imodintro
  iexact H
theorem chq (c : Dev nD) (d : Fin 2) (t : Fin 3) : ch d c (t.val + 3) = ch d c ((t.val + 3) % 4) := by revert c d t; decide

theorem norm1 (a : FVec F S256x1024 .f32) (b : FVec F S1024x1024 .f32) :
    k0_pay2 (k0_pay1 a b) = k0_pay3 a b ∧ k0_pay4 a b = k0_pay3 a b ∧ k0_pay6 (k0_pay5 a b) = k0_pay3 a b ∧ k0_pay7 a b = k0_pay3 a b
    ∧ k0_pay9 (k0_pay8 a) b = k0_pay3 a b ∧ k0_pay10 a b = k0_pay3 a b ∧ k0_pay11 a b = k0_pay3 a b ∧ k0_pay13 (k0_pay12 a b) = k0_pay3 a b
    ∧ k0_pay14 a b = k0_pay3 a b ∧ k0_pay15 a b = k0_pay3 a b ∧ k0_pay17 (k0_pay16 a b) = k0_pay3 a b ∧ k0_pay23 a b = k0_pay3 a b
    ∧ k0_pay25 (k0_pay24 a b) = k0_pay3 a b ∧ k0_pay26 a b = k0_pay3 a b ∧ k0_pay28 (k0_pay27 a) b = k0_pay3 a b :=
  ⟨rfl, rfl, rfl, rfl, rfl, rfl, rfl, rfl, rfl, rfl, rfl, rfl, rfl, rfl, rfl⟩
theorem norm2 (a : FVec F S256x1024 .bf16) (b : FVec F S1x256x1024 .bf16) :
    k0_pay20 a b = k0_pay19 a b ∧ k0_pay21 a b = k0_pay19 a b ∧ k0_pay22 a b = k0_pay19 a b ∧ k0_pay31 a b = k0_pay19 a b
    ∧ k0_pay32 a b = k0_pay19 a b ∧ k0_pay33 a b = k0_pay19 a b ∧ k0_pay30 a (k0_pay29 b) = k0_pay19 a b
    ∧ k0_pay35 a b = k0_pay34 a b ∧ k0_pay38 a b = k0_pay34 a b ∧ k0_pay37 (k0_pay36 a b) = k0_pay34 a b :=
  ⟨rfl, rfl, rfl, rfl, rfl, rfl, rfl, rfl, rfl, rfl⟩
theorem norm3 (a : FVec F S1x256x1024 .bf16) (b : FVec F S1024x1024 .bf16) :
    k0_pay40 a b = k0_pay39 a b ∧ k0_pay42 (k0_pay41 a) b (constant S256x1024 .f32 0x00000000#32) = k0_pay39 a b ∧ k0_pay43 a b = k0_pay39 a b ∧ k0_pay44 a b = k0_pay39 a b
    ∧ k0_pay45 a b = k0_pay39 a b ∧ k0_pay46 a b = k0_pay39 a b ∧ k0_pay47 a b = k0_pay39 a b ∧ k0_pay49 (k0_pay48 a) b = k0_pay39 a b
    ∧ k0_pay50 a b = k0_pay39 a b ∧ k0_pay51 a b = k0_pay39 a b ∧ k0_pay52 a b = k0_pay39 a b ∧ k0_pay53 a b = k0_pay39 a b
    ∧ k0_pay54 a b = k0_pay39 a b ∧ k0_pay55 a b = k0_pay39 a b ∧ k0_pay56 a b = k0_pay39 a b :=
  ⟨rfl, rfl, rfl, rfl, rfl, rfl, rfl, rfl, rfl, rfl, rfl, rfl, rfl, rfl, rfl⟩

set_option maxHeartbeats 4000000 in
theorem body_run (c : Dev nD) (Kt : PUnit → sProp (MT nD τ sig Unit (Elt F) ℕ UU ℕ)) :
    ctx (F := F) m K ⊢ iprop(bodyIn m c -∗ (bodyOut m c -∗ Kt ⟨⟩)
      -∗ run c (cc0_body xM (Memref.isWhole_whole _) w1M (Memref.isWhole_whole _) w2M (Memref.isWhole_whole _) oM (Memref.isWhole_whole _)
          hM (Memref.isWhole_whole _) rM (Memref.isWhole_whole _) w2bM (Memref.isWhole_whole _)
          cc0_scratch3 cc0_scratch4 cc0_scratch5 cc0_scratch6 cc0_scratch7 cc0_scratch8 cc0_scratch9 cc0_scratch10 cc0_scoped0) Kt) := by
  rw [cc0_body_eq_skeleton]
  unfold cc0_body_skel
  iintro #Hctx ⟨Hx, Hw1, Hw2, Hwb, ⟨Hd1, Hd0, Hba, Hbc⟩, ⟨He1, He0, Hfa, Hfc⟩, Hr0, Hr1, HH, HO, HS, HR, Ho, Hz⟩ Hk
  icases HH with ⟨⟨H000, H010, H001, H011⟩, ⟨H100, H110, H101, H111⟩, ⟨H200, H210, H201, H211⟩, ⟨H300, H310, H301, H311⟩⟩
  icases HO with ⟨⟨O000, O010, O001, O011⟩, ⟨O100, O110, O101, O111⟩, ⟨O200, O210, O201, O211⟩, ⟨O300, O310, O301, O311⟩⟩
  icases HS with ⟨⟨⟨S0000, S0010, S0001, S0011⟩, ⟨S0100, S0110, S0101, S0111⟩, ⟨S0200, S0210, S0201, S0211⟩⟩, ⟨S1000, S1010, S1001, S1011⟩, ⟨S1100, S1110, S1101, S1111⟩, ⟨S1200, S1210, S1201, S1211⟩⟩
  icases HR with ⟨⟨⟨R0000, R0010, R0001, R0011⟩, ⟨R0100, R0110, R0101, R0111⟩, ⟨R0200, R0210, R0201, R0211⟩⟩, ⟨R1000, R1010, R1001, R1011⟩, ⟨R1100, R1110, R1101, R1111⟩, ⟨R1200, R1210, R1201, R1211⟩⟩
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel,
    semSignalWord, semWaitWord, Prog.lift, Prog.bind_op, Prog.bind_ret, Prog.pure_eq_ret, wp_deviceId,
    norm1, norm2, norm3]
  iapply (s_bar m K c _ 1 0 0 (by exact dev_nx 1 c (k0_dev1_eq c)) (by decide) (by rfl) rfl (by rfl)) $$ Hctx Hd1 Hr0 Ho
  iintro Ho
  iapply (s_bar m K c _ 0 1 1 (by exact dev_nx 0 c (k0_dev2_eq c)) (by decide) (by rfl) rfl (by rfl)) $$ Hctx Hd0 Hr1 Ho
  iintro Ho
  iapply (mm1 m c (ch 0 c 0) 0 0 (by exact off1_at c 0 0) (by exact off2_at c 0 0)) $$ Hx Hw1 H000
  iintro Hx Hw1 H000 %_ %_ %_
  iapply (mm1 m c (ch 1 c 0) 1 0 (by exact off1_at c 1 0) (by exact off2_at c 1 0)) $$ Hx Hw1 H010
  iintro Hx Hw1 H010 %_ %_ %_
  iapply (w_bar m K c 2 0 (by rfl) (by rfl) (by decide) rfl) $$ Hctx Hba Hbc Ho Hz
  iintro HG0 HG1 Ho Hz
  unfold regions
  icases HG0 with ⟨G000, G010, G001, G011, G002, G012⟩
  icases HG1 with ⟨G100, G110, G101, G111, G102, G112⟩
  ihave H000 := (to_acc m c 0 0) $$ H000
  iapply (rs0 m K c 0 0 2 (by exact dev_nx 0 c (k0_dev3_eq c)) (by exact off3_at c 0 0) (by decide) (by rfl) (by rfl) rfl) $$ Hctx S0000 H000 G000 Ho
  iintro W0000 Ho
  ihave H010 := (to_acc m c 1 0) $$ H010
  iapply (rs0 m K c 1 0 3 (by exact dev_nx 1 c (k0_dev4_eq c)) (by exact off3_at c 1 0) (by decide) (by rfl) (by rfl) rfl) $$ Hctx S0010 H010 G100 Ho
  iintro W0010 Ho
  iapply (mm1 m c (ch 0 c 0) 0 1 (by exact off1_at c 0 1) (by exact off2_at c 0 1)) $$ Hx Hw1 H001
  iintro Hx Hw1 H001 %_ %_ %_
  iapply (mm1 m c (ch 1 c 0) 1 1 (by exact off1_at c 1 1) (by exact off2_at c 1 1)) $$ Hx Hw1 H011
  iintro Hx Hw1 H011 %_ %_ %_
  ihave H001 := (to_acc m c 0 1) $$ H001
  iapply (rs0 m K c 0 1 4 (by exact dev_nx 0 c (k0_dev5_eq c)) (by exact off3_at c 0 1) (by decide) (by rfl) (by rfl) rfl) $$ Hctx S0001 H001 G010 Ho
  iintro W0001 Ho
  ihave H011 := (to_acc m c 1 1) $$ H011
  iapply (rs0 m K c 1 1 5 (by exact dev_nx 1 c (k0_dev6_eq c)) (by exact off3_at c 1 1) (by decide) (by rfl) (by rfl) rfl) $$ Hctx S0011 H011 G110 Ho
  iintro W0011 Ho
  iapply (mm1 m c (ch 0 c 1) 0 0 (by exact off4_at c 0 0) (by exact off5_at c 0 0)) $$ Hx Hw1 H100
  iintro Hx Hw1 H100 %_ %_ %_
  simp only [k0_part8_eq_skeleton, k0_part8_skel, k0_part9_eq_skeleton, k0_part9_skel, k0_part10_eq_skeleton, k0_part10_skel, k0_part11_eq_skeleton, k0_part11_skel,
    semSignalWord, semWaitWord, Prog.lift, Prog.bind_op, Prog.bind_ret, Prog.pure_eq_ret, wp_deviceId,
    norm1, norm2, norm3]
  iapply (mm1 m c (ch 1 c 3) 1 0 (by exact off4_at c 1 0) (by exact off5_at c 1 0)) $$ Hx Hw1 H310
  iintro Hx Hw1 H310 %_ %_ %_
  iapply (mm1 m c (ch 0 c 1) 0 1 (by exact off4_at c 0 1) (by exact off5_at c 0 1)) $$ Hx Hw1 H101
  iintro Hx Hw1 H101 %_ %_ %_
  iapply (mm1 m c (ch 1 c 3) 1 1 (by exact off4_at c 1 1) (by exact off5_at c 1 1)) $$ Hx Hw1 H311
  iintro Hx Hw1 H311 %_ %_ %_
  iapply (mm1 m c (ch 0 c 3) 0 0 (by exact off6_at1 c 0 0) (by exact off7_at1 c 0 0)) $$ Hx Hw1 H300
  iintro Hx Hw1 H300 %_ %_ %_
  iapply (mm1 m c (ch 1 c 1) 1 0 (by exact off6_at1 c 1 0) (by exact off7_at1 c 1 0)) $$ Hx Hw1 H110
  iintro Hx Hw1 H110 %_ %_ %_
  iapply (mm1 m c (ch 0 c 3) 0 1 (by exact off6_at1 c 0 1) (by exact off7_at1 c 0 1)) $$ Hx Hw1 H301
  iintro Hx Hw1 H301 %_ %_ %_
  iapply (mm1 m c (ch 1 c 1) 1 1 (by exact off6_at1 c 1 1) (by exact off7_at1 c 1 1)) $$ Hx Hw1 H111
  iintro Hx Hw1 H111 %_ %_ %_
  iapply (ld_w2 m c) $$ Hw2
  iintro Hw2
  iapply (ld_wbA c) $$ Hwb
  iintro Hwb %Xw
  iapply (st_wb m c (by rfl)) $$ Hwb
  iintro Hwb
  simp only [k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel,
    semSignalWord, semWaitWord, Prog.lift, Prog.bind_op, Prog.bind_ret, Prog.pure_eq_ret, wp_deviceId,
    norm1, norm2, norm3]
  iapply (step_mid m K c 0 0 6 1 0 0 1 0 1 rfl rfl rfl rfl (by rfl) (by rfl) (by decide) rfl (by exact dev_nx 0 c (k0_dev7_eq c)) (by decide) (by decide) (by exact off8_at c 0 0) (by rfl) (by rfl) rfl)
    $$ Hctx R0000 H100 S0100 G001 Ho Hz
  iintro W0100 Ho Hz %_ %_ %_
  iapply (step_mid m K c 1 0 7 2 0 0 1 0 1 rfl rfl rfl rfl (by rfl) (by rfl) (by decide) rfl (by exact dev_nx 1 c (k0_dev8_eq c)) (by decide) (by decide) (by exact off9_at c 0 0) (by rfl) (by rfl) rfl)
    $$ Hctx R0010 H110 S0110 G101 Ho Hz
  iintro W0110 Ho Hz %_ %_ %_
  iapply (step_mid m K c 0 1 8 3 0 0 1 0 1 rfl rfl rfl rfl (by rfl) (by rfl) (by decide) rfl (by exact dev_nx 0 c (k0_dev9_eq c)) (by decide) (by decide) (by exact off8_at c 0 1) (by rfl) (by rfl) rfl)
    $$ Hctx R0001 H101 S0101 G011 Ho Hz
  iintro W0101 Ho Hz %_ %_ %_
  iapply (step_mid m K c 1 1 9 4 0 0 1 0 1 rfl rfl rfl rfl (by rfl) (by rfl) (by decide) rfl (by exact dev_nx 1 c (k0_dev10_eq c)) (by decide) (by decide) (by exact off9_at c 0 1) (by rfl) (by rfl) rfl)
    $$ Hctx R0011 H111 S0111 G111 Ho Hz
  iintro W0111 Ho Hz %_ %_ %_
  iapply (mm1 m c (ch 0 c 2) 0 0 (by exact off6_at2 c 0 0) (by exact off7_at2 c 0 0)) $$ Hx Hw1 H200
  iintro Hx Hw1 H200 %_ %_ %_
  iapply (mm1 m c (ch 1 c 2) 1 0 (by exact off6_at2 c 1 0) (by exact off7_at2 c 1 0)) $$ Hx Hw1 H210
  iintro Hx Hw1 H210 %_ %_ %_
  iapply (mm1 m c (ch 0 c 2) 0 1 (by exact off6_at2 c 0 1) (by exact off7_at2 c 0 1)) $$ Hx Hw1 H201
  iintro Hx Hw1 H201 %_ %_ %_
  iapply (mm1 m c (ch 1 c 2) 1 1 (by exact off6_at2 c 1 1) (by exact off7_at2 c 1 1)) $$ Hx Hw1 H211
  iintro Hx Hw1 H211 %_ %_ %_
  simp only [k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel,
    semSignalWord, semWaitWord, Prog.lift, Prog.bind_op, Prog.bind_ret, Prog.pure_eq_ret, wp_deviceId,
    norm1, norm2, norm3]
  iapply (step_mid m K c 0 0 10 5 1 1 2 1 2 rfl rfl rfl rfl (by rfl) (by rfl) (by decide) rfl (by exact dev_nx 0 c (k0_dev11_eq c)) (by decide) (by decide) (by exact off8_at c 1 0) (by rfl) (by rfl) rfl)
    $$ Hctx R0100 H200 S0200 G002 Ho Hz
  iintro W0200 Ho Hz %_ %_ %_
  iapply (step_mid m K c 1 0 11 6 1 1 2 1 2 rfl rfl rfl rfl (by rfl) (by rfl) (by decide) rfl (by exact dev_nx 1 c (k0_dev12_eq c)) (by decide) (by decide) (by exact off9_at c 1 0) (by rfl) (by rfl) rfl)
    $$ Hctx R0110 H210 S0210 G102 Ho Hz
  iintro W0210 Ho Hz %_ %_ %_
  iapply (step_mid m K c 0 1 12 7 1 1 2 1 2 rfl rfl rfl rfl (by rfl) (by rfl) (by decide) rfl (by exact dev_nx 0 c (k0_dev13_eq c)) (by decide) (by decide) (by exact off8_at c 1 1) (by rfl) (by rfl) rfl)
    $$ Hctx R0101 H201 S0201 G012 Ho Hz
  iintro W0201 Ho Hz %_ %_ %_
  iapply (step_mid m K c 1 1 13 8 1 1 2 1 2 rfl rfl rfl rfl (by rfl) (by rfl) (by decide) rfl (by exact dev_nx 1 c (k0_dev14_eq c)) (by decide) (by decide) (by exact off9_at c 1 1) (by rfl) (by rfl) rfl)
    $$ Hctx R0111 H211 S0211 G112 Ho Hz
  iintro W0211 Ho Hz %_ %_ %_
  iapply (step_fin m K c 0 0 14 9 (by rfl) (by rfl) (by decide) rfl (by exact dev_nx 0 c (k0_dev15_eq c)) (by decide) (by exact off7_at1 c 0 0) (by exact off10_at c 0 0) (by exact off10_at c 0 0) (by rfl) (by rfl) rfl)
    $$ Hctx R0200 H300 S1000 Ho Hz
  iintro P002 W1000 H300 Ho Hz %_ %_ %_
  iapply (step_fin m K c 1 0 15 10 (by rfl) (by rfl) (by decide) rfl (by exact dev_nx 1 c (k0_dev16_eq c)) (by decide) (by exact off5_at c 1 0) (by exact off11_at c 0 0) (by exact off11_at c 0 0) (by rfl) (by rfl) rfl)
    $$ Hctx R0210 H310 S1010 Ho Hz
  iintro P102 W1010 H310 Ho Hz %_ %_ %_
  iapply (step_fin m K c 0 1 16 11 (by rfl) (by rfl) (by decide) rfl (by exact dev_nx 0 c (k0_dev17_eq c)) (by decide) (by exact off7_at1 c 0 1) (by exact off10_at c 0 1) (by exact off10_at c 0 1) (by rfl) (by rfl) rfl)
    $$ Hctx R0201 H301 S1001 Ho Hz
  iintro P012 W1001 H301 Ho Hz %_ %_ %_
  iapply (step_fin m K c 1 1 17 12 (by rfl) (by rfl) (by decide) rfl (by exact dev_nx 1 c (k0_dev18_eq c)) (by decide) (by exact off5_at c 1 1) (by exact off11_at c 0 1) (by exact off11_at c 0 1) (by rfl) (by rfl) rfl)
    $$ Hctx R0211 H311 S1011 Ho Hz
  iintro P112 W1011 H311 Ho Hz %_ %_ %_
  simp only [k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel,
    semSignalWord, semWaitWord, Prog.lift, Prog.bind_op, Prog.bind_ret, Prog.pure_eq_ret, wp_deviceId,
    norm1, norm2, norm3]
  iapply (w_rss0 m K c 0 0 18 13 (by rfl) (by rfl) (by decide) rfl) $$ Hctx W0000 Ho Hz
  iintro Ho Hz
  iapply (w_rss0 m K c 1 0 18 14 (by rfl) (by rfl) (by decide) rfl) $$ Hctx W0010 Ho Hz
  iintro Ho Hz
  iapply (w_rss0 m K c 0 1 18 15 (by rfl) (by rfl) (by decide) rfl) $$ Hctx W0001 Ho Hz
  iintro Ho Hz
  iapply (w_rss0 m K c 1 1 18 16 (by rfl) (by rfl) (by decide) rfl) $$ Hctx W0011 Ho Hz
  iintro Ho Hz
  iapply (w_rss m K c 0 0 18 17 0 0 1 rfl rfl (by rfl) (by rfl) (by decide) rfl) $$ Hctx W0100 Ho Hz
  iintro P000 Ho Hz
  iapply (w_rss m K c 1 0 18 18 0 0 1 rfl rfl (by rfl) (by rfl) (by decide) rfl) $$ Hctx W0110 Ho Hz
  iintro P100 Ho Hz
  iapply (w_rss m K c 0 1 18 19 0 0 1 rfl rfl (by rfl) (by rfl) (by decide) rfl) $$ Hctx W0101 Ho Hz
  iintro P010 Ho Hz
  iapply (w_rss m K c 1 1 18 20 0 0 1 rfl rfl (by rfl) (by rfl) (by decide) rfl) $$ Hctx W0111 Ho Hz
  iintro P110 Ho Hz
  iapply (w_rss m K c 0 0 18 21 1 1 2 rfl rfl (by rfl) (by rfl) (by decide) rfl) $$ Hctx W0200 Ho Hz
  iintro P001 Ho Hz
  iapply (w_rss m K c 1 0 18 22 1 1 2 rfl rfl (by rfl) (by rfl) (by decide) rfl) $$ Hctx W0210 Ho Hz
  iintro P101 Ho Hz
  iapply (w_rss m K c 0 1 18 23 1 1 2 rfl rfl (by rfl) (by rfl) (by decide) rfl) $$ Hctx W0201 Ho Hz
  iintro P011 Ho Hz
  iapply (w_rss m K c 1 1 18 24 1 1 2 rfl rfl (by rfl) (by rfl) (by decide) rfl) $$ Hctx W0211 Ho Hz
  iintro P111 Ho Hz
  iapply (step_fwd m K c 0 0 18 25 0 0 1 0 rfl rfl rfl (by rfl) (by rfl) (by decide) rfl (by exact dev_nx 0 c (k0_dev19_eq c)) (by exact off10_at c 1 0) (by exact off10_at c 1 0) (by rfl) (by rfl) rfl)
    $$ Hctx R1000 S1100 Ho Hz
  iintro W1100 H000 Ho Hz
  iapply (step_fwd m K c 1 0 19 26 0 0 1 0 rfl rfl rfl (by rfl) (by rfl) (by decide) rfl (by exact dev_nx 1 c (k0_dev20_eq c)) (by exact off11_at c 1 0) (by exact off11_at c 1 0) (by rfl) (by rfl) rfl)
    $$ Hctx R1010 S1110 Ho Hz
  iintro W1110 H010 Ho Hz
  iapply (step_fwd m K c 0 1 20 27 0 0 1 0 rfl rfl rfl (by rfl) (by rfl) (by decide) rfl (by exact dev_nx 0 c (k0_dev21_eq c)) (by exact off10_at c 1 1) (by exact off10_at c 1 1) (by rfl) (by rfl) rfl)
    $$ Hctx R1001 S1101 Ho Hz
  iintro W1101 H001 Ho Hz
  iapply (step_fwd m K c 1 1 21 28 0 0 1 0 rfl rfl rfl (by rfl) (by rfl) (by decide) rfl (by exact dev_nx 1 c (k0_dev22_eq c)) (by exact off11_at c 1 1) (by exact off11_at c 1 1) (by rfl) (by rfl) rfl)
    $$ Hctx R1011 S1111 Ho Hz
  iintro W1111 H011 Ho Hz
  iapply (mm2 m c (ch 0 c 0) 0 0 fullShare.right (by exact off2_at c 0 0) (by exact off1_at c 0 0)) $$ H000 Hwb O000
  iintro H000 Hwb O000 %_ %_ %_
  iapply (mm2 m c (ch 1 c 0) 1 0 fullShare.right (by exact off2_at c 1 0) (by exact off1_at c 1 0)) $$ H010 Hwb O010
  iintro H010 Hwb O010 %_ %_ %_
  iapply (mm2 m c (ch 0 c 0) 0 1 fullShare.right (by exact off2_at c 0 1) (by exact off1_at c 0 1)) $$ H001 Hwb O001
  iintro H001 Hwb O001 %_ %_ %_
  iapply (mm2 m c (ch 1 c 0) 1 1 fullShare.right (by exact off2_at c 1 1) (by exact off1_at c 1 1)) $$ H011 Hwb O011
  iintro H011 Hwb O011 %_ %_ %_
  simp only [k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel,
    semSignalWord, semWaitWord, Prog.lift, Prog.bind_op, Prog.bind_ret, Prog.pure_eq_ret, wp_deviceId,
    norm1, norm2, norm3]
  iapply (step_fwd m K c 0 0 22 29 1 1 2 1 rfl rfl rfl (by rfl) (by rfl) (by decide) rfl (by exact dev_nx 0 c (k0_dev23_eq c)) (by exact off10_at c 2 0) (by exact off10_at c 2 0) (by rfl) (by rfl) rfl)
    $$ Hctx R1100 S1200 Ho Hz
  iintro W1200 H100 Ho Hz
  iapply (step_fwd m K c 1 0 23 30 1 1 2 1 rfl rfl rfl (by rfl) (by rfl) (by decide) rfl (by exact dev_nx 1 c (k0_dev24_eq c)) (by exact off11_at c 2 0) (by exact off11_at c 2 0) (by rfl) (by rfl) rfl)
    $$ Hctx R1110 S1210 Ho Hz
  iintro W1210 H110 Ho Hz
  iapply (step_fwd m K c 0 1 24 31 1 1 2 1 rfl rfl rfl (by rfl) (by rfl) (by decide) rfl (by exact dev_nx 0 c (k0_dev25_eq c)) (by exact off10_at c 2 1) (by exact off10_at c 2 1) (by rfl) (by rfl) rfl)
    $$ Hctx R1101 S1201 Ho Hz
  iintro W1201 H101 Ho Hz
  iapply (step_fwd m K c 1 1 25 32 1 1 2 1 rfl rfl rfl (by rfl) (by rfl) (by decide) rfl (by exact dev_nx 1 c (k0_dev26_eq c)) (by exact off11_at c 2 1) (by exact off11_at c 2 1) (by rfl) (by rfl) rfl)
    $$ Hctx R1111 S1211 Ho Hz
  iintro W1211 H111 Ho Hz
  iapply (mm2 m c (ch 0 c 3) 0 0 fullShare.right (by exact off7_at1 c 0 0) (by exact off6_at1 c 0 0)) $$ H300 Hwb O300
  iintro H300 Hwb O300 %_ %_ %_
  iapply (mm2 m c (ch 1 c 1) 1 0 fullShare.right (by exact off7_at1 c 1 0) (by exact off6_at1 c 1 0)) $$ H110 Hwb O110
  iintro H110 Hwb O110 %_ %_ %_
  iapply (mm2 m c (ch 0 c 3) 0 1 fullShare.right (by exact off7_at1 c 0 1) (by exact off6_at1 c 0 1)) $$ H301 Hwb O301
  iintro H301 Hwb O301 %_ %_ %_
  iapply (mm2 m c (ch 1 c 1) 1 1 fullShare.right (by exact off7_at1 c 1 1) (by exact off6_at1 c 1 1)) $$ H111 Hwb O111
  iintro H111 Hwb O111 %_ %_ %_
  iapply (mm2 m c (ch 0 c 1) 0 0 fullShare.right (by exact off5_at c 0 0) (by exact off4_at c 0 0)) $$ H100 Hwb O100
  iintro H100 Hwb O100 %_ %_ %_
  iapply (mm2 m c (ch 1 c 3) 1 0 fullShare.right (by exact off5_at c 1 0) (by exact off4_at c 1 0)) $$ H310 Hwb O310
  iintro H310 Hwb O310 %_ %_ %_
  iapply (mm2 m c (ch 0 c 1) 0 1 fullShare.right (by exact off5_at c 0 1) (by exact off4_at c 0 1)) $$ H101 Hwb O101
  iintro H101 Hwb O101 %_ %_ %_
  iapply (mm2 m c (ch 1 c 3) 1 1 fullShare.right (by exact off5_at c 1 1) (by exact off4_at c 1 1)) $$ H311 Hwb O311
  iintro H311 Hwb O311 %_ %_ %_
  simp only [k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel,
    semSignalWord, semWaitWord, Prog.lift, Prog.bind_op, Prog.bind_ret, Prog.pure_eq_ret, wp_deviceId,
    norm1, norm2, norm3]
  iapply (w_ag m K c 0 0 26 33 2 2 rfl (by rfl) (by rfl) (by decide) rfl) $$ Hctx R1200 Ho Hz
  iintro H200 _ Ho Hz
  iapply (mm2 m c (ch 0 c 2) 0 0 fullShare (by exact off7_at2 c 0 0) (by exact off6_at2 c 0 0)) $$ H200 Hwb O200
  iintro H200 Hwb O200 %_ %_ %_
  iapply (w_ag m K c 1 0 26 34 2 2 rfl (by rfl) (by rfl) (by decide) rfl) $$ Hctx R1210 Ho Hz
  iintro H210 _ Ho Hz
  iapply (mm2 m c (ch 1 c 2) 1 0 fullShare (by exact off7_at2 c 1 0) (by exact off6_at2 c 1 0)) $$ H210 Hwb O210
  iintro H210 Hwb O210 %_ %_ %_
  iapply (w_ag m K c 0 1 26 35 2 2 rfl (by rfl) (by rfl) (by decide) rfl) $$ Hctx R1201 Ho Hz
  iintro H201 _ Ho Hz
  iapply (mm2 m c (ch 0 c 2) 0 1 fullShare (by exact off7_at2 c 0 1) (by exact off6_at2 c 0 1)) $$ H201 Hwb O201
  iintro H201 Hwb O201 %_ %_ %_
  iapply (w_ag m K c 1 1 26 36 2 2 rfl (by rfl) (by rfl) (by decide) rfl) $$ Hctx R1211 Ho Hz
  iintro H211 _ Ho Hz
  iapply (mm2 m c (ch 1 c 2) 1 1 fullShare (by exact off7_at2 c 1 1) (by exact off6_at2 c 1 1)) $$ H211 Hwb O211
  iintro H211 Hwb O211 %_ %_ %_
  iapply (w_ags m K c 0 0 26 37 0 3 (chq c 0 0) (by rfl) (by rfl) (by decide) rfl) $$ Hctx W1000 H300 Ho Hz
  iintro H300 Ho Hz
  iapply (w_ags m K c 1 0 26 38 0 3 (chq c 1 0) (by rfl) (by rfl) (by decide) rfl) $$ Hctx W1010 H310 Ho Hz
  iintro H310 Ho Hz
  iapply (w_ags m K c 0 1 26 39 0 3 (chq c 0 0) (by rfl) (by rfl) (by decide) rfl) $$ Hctx W1001 H301 Ho Hz
  iintro H301 Ho Hz
  iapply (w_ags m K c 1 1 26 40 0 3 (chq c 1 0) (by rfl) (by rfl) (by decide) rfl) $$ Hctx W1011 H311 Ho Hz
  iintro H311 Ho Hz
  iapply (w_ags m K c 0 0 26 41 1 0 (chq c 0 1) (by rfl) (by rfl) (by decide) rfl) $$ Hctx W1100 H000 Ho Hz
  iintro H000 Ho Hz
  iapply (w_ags m K c 1 0 26 42 1 0 (chq c 1 1) (by rfl) (by rfl) (by decide) rfl) $$ Hctx W1110 H010 Ho Hz
  iintro H010 Ho Hz
  iapply (w_ags m K c 0 1 26 43 1 0 (chq c 0 1) (by rfl) (by rfl) (by decide) rfl) $$ Hctx W1101 H001 Ho Hz
  iintro H001 Ho Hz
  iapply (w_ags m K c 1 1 26 44 1 0 (chq c 1 1) (by rfl) (by rfl) (by decide) rfl) $$ Hctx W1111 H011 Ho Hz
  iintro H011 Ho Hz
  iapply (w_ags m K c 0 0 26 45 2 1 (chq c 0 2) (by rfl) (by rfl) (by decide) rfl) $$ Hctx W1200 H100 Ho Hz
  iintro H100 Ho Hz
  iapply (w_ags m K c 1 0 26 46 2 1 (chq c 1 2) (by rfl) (by rfl) (by decide) rfl) $$ Hctx W1210 H110 Ho Hz
  iintro H110 Ho Hz
  iapply (w_ags m K c 0 1 26 47 2 1 (chq c 0 2) (by rfl) (by rfl) (by decide) rfl) $$ Hctx W1201 H101 Ho Hz
  iintro H101 Ho Hz
  iapply (w_ags m K c 1 1 26 48 2 1 (chq c 1 2) (by rfl) (by rfl) (by decide) rfl) $$ Hctx W1211 H111 Ho Hz
  iintro H111 Ho Hz
  iapply (s_fin m K c _ 1 0 26 (by exact dev_nx 1 c (k0_dev27_eq c)) (by rfl) rfl (by rfl)) $$ Hctx He1 Ho
  iintro Ho
  iapply (s_fin m K c _ 0 1 27 (by exact dev_nx 0 c (k0_dev28_eq c)) (by rfl) rfl (by rfl)) $$ Hctx He0 Ho
  iintro Ho
  iapply (w_fin m K c 28 49 (by rfl) (by rfl) (by decide) rfl) $$ Hctx Hfa Hfc Ho Hz
  iintro Ho Hz
  iapply (run_done c)
  iapply Hk
  simp only [bodyOut, all4, all16]
  iframe

end Cert.Duplex
-- ==== Proof.Split.lean ====
module

public import proofs.«01_k».proof.Proof.Body

@[expose] public section

noncomputable section

namespace Cert.Duplex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × CK → ℕ)

/-! # Buffers as their pieces

The scratch buffers and the result's staging buffer, each cut into the pieces that the protocol moves, and put together again. -/

/-- The pieces of a buffer of four chunks: chunk, direction, half. -/
abbrev P16 : Type := Fin 4 × Fin 2 × Fin 2
/-- The landing regions: direction, step, half. -/
abbrev P12 : Type := Fin 2 × Fin 3 × Fin 2

/-- Contents given piece by piece on a disjoint family of rectangles come from contents of the whole. -/
theorem glue {T : Type} {sh : Shape} {V : Type} [Nonempty V] (r : T → Rect sh)
    (hd : ∀ t t', t ≠ t' → Disjoint (r t).set (r t').set) (Y : ∀ t, (r t).shape.Idx → V) :
    ∃ X : sh.Idx → V, ∀ t j, X ((r t).emb j) = Y t j := by
  classical
  refine ⟨fun i => if h : ∃ p : (Σ t, (r t).shape.Idx), (r p.1).emb p.2 = i then Y h.choose.1 h.choose.2 else Classical.arbitrary V, fun t j => ?_⟩
  have h : ∃ p : (Σ t, (r t).shape.Idx), (r p.1).emb p.2 = (r t).emb j := ⟨⟨t, j⟩, rfl⟩
  show (if h : ∃ p : (Σ t, (r t).shape.Idx), (r p.1).emb p.2 = (r t).emb j then Y h.choose.1 h.choose.2 else Classical.arbitrary V) = _
  rw [dif_pos h]
  have e := h.choose_spec
  generalize h.choose = p at e
  obtain ⟨t', j'⟩ := p
  have ht : t' = t := by
    by_contra hn
    have hm : ∀ (u : T) (i : (r u).shape.Idx), (r u).emb i ∈ (r u).set := fun u i =>
      (r u).map_emb_univ ▸ Finset.mem_map_of_mem _ (Finset.mem_univ i)
    exact Finset.disjoint_left.mp (hd t' t hn) (hm t' j') (by rw [show (r t').emb j' = (r t).emb j from e]; exact hm t j)
  subst ht
  have hj : j' = j := (r t').emb.injective e
  subst hj; rfl

/-! ## The rectangles are disjoint and cover -/

def hR (t : P16) : Rect S16x256x1024 := hrect t.1 t.2.1 t.2.2
def xR (t : P16) : Rect S4096x1024 := xrect t.1 t.2.1 t.2.2
def rR (t : P12) : Rect S3072x1024 := rrect t.2.1 t.1 t.2.2

theorem hR_disj (t t' : P16) (h : t ≠ t') : Disjoint (hR t).set (hR t').set := by
  have key : ∀ t t' : P16, t ≠ t' → hoff t.1 t.2.1 t.2.2 0 + 1 ≤ hoff t'.1 t'.2.1 t'.2.2 0 ∨ hoff t'.1 t'.2.1 t'.2.2 0 + 1 ≤ hoff t.1 t.2.1 t.2.2 0 := by
    decide +kernel
  exact Rect.unit_disjoint (inb := hoff_inb _ _ _) (inb' := hoff_inb _ _ _) 0 (key t t' h)
theorem xR_disj (t t' : P16) (h : t ≠ t') : Disjoint (xR t).set (xR t').set := by
  have key : ∀ t t' : P16, t ≠ t' → xoff t.1 t.2.1 t.2.2 0 + 256 ≤ xoff t'.1 t'.2.1 t'.2.2 0 ∨ xoff t'.1 t'.2.1 t'.2.2 0 + 256 ≤ xoff t.1 t.2.1 t.2.2 0 := by
    decide +kernel
  exact Rect.unit_disjoint (inb := xoff_inb _ _ _) (inb' := xoff_inb _ _ _) 0 (key t t' h)
theorem rR_disj (t t' : P12) (h : t ≠ t') : Disjoint (rR t).set (rR t').set := by
  have key : ∀ t t' : P12, t ≠ t' → roff t.2.1 t.1 t.2.2 0 + 256 ≤ roff t'.2.1 t'.1 t'.2.2 0 ∨ roff t'.2.1 t'.1 t'.2.2 0 + 256 ≤ roff t.2.1 t.1 t.2.2 0 := by
    decide +kernel
  exact Rect.unit_disjoint (inb := roff_inb _ _ _) (inb' := roff_inb _ _ _) 0 (key t t' h)

theorem hR_mem (i : S16x256x1024.Idx) : ∃ t : P16, i ∈ (hR t).set := by
  have h0 : (i 0 : ℕ) < 16 := (i 0).isLt
  have h1 : (i 1 : ℕ) < 256 := (i 1).isLt
  have h2 : (i 2 : ℕ) < 1024 := (i 2).isLt
  refine ⟨(⟨(i 0 : ℕ) / 4, by omega⟩, ⟨(i 0 : ℕ) / 2 % 2, by omega⟩, ⟨(i 0 : ℕ) % 2, by omega⟩), (Rect.mem_set_unit (inb := hoff_inb _ _ _)).mpr fun a => ?_⟩
  match a with
  | 0 => show 4 * ((i 0 : ℕ) / 4) + 2 * ((i 0 : ℕ) / 2 % 2) + (i 0 : ℕ) % 2 ≤ (i 0 : ℕ) ∧ (i 0 : ℕ) < 4 * ((i 0 : ℕ) / 4) + 2 * ((i 0 : ℕ) / 2 % 2) + (i 0 : ℕ) % 2 + 1; omega
  | 1 => show 0 ≤ (i 1 : ℕ) ∧ (i 1 : ℕ) < 0 + 256; omega
  | 2 => show 0 ≤ (i 2 : ℕ) ∧ (i 2 : ℕ) < 0 + 1024; omega
theorem xR_mem (i : S4096x1024.Idx) : ∃ t : P16, i ∈ (xR t).set := by
  have h0 : (i 0 : ℕ) < 4096 := (i 0).isLt
  have h1 : (i 1 : ℕ) < 1024 := (i 1).isLt
  refine ⟨(⟨(i 0 : ℕ) / 1024, by omega⟩, ⟨(i 0 : ℕ) / 512 % 2, by omega⟩, ⟨(i 0 : ℕ) / 256 % 2, by omega⟩), (Rect.mem_set_unit (inb := xoff_inb _ _ _)).mpr fun a => ?_⟩
  match a with
  | 0 =>
    show 1024 * ((i 0 : ℕ) / 1024) + 512 * ((i 0 : ℕ) / 512 % 2) + 256 * ((i 0 : ℕ) / 256 % 2) ≤ (i 0 : ℕ)
      ∧ (i 0 : ℕ) < 1024 * ((i 0 : ℕ) / 1024) + 512 * ((i 0 : ℕ) / 512 % 2) + 256 * ((i 0 : ℕ) / 256 % 2) + 256
    omega
  | 1 => show 0 ≤ (i 1 : ℕ) ∧ (i 1 : ℕ) < 0 + 1024; omega
theorem rR_mem (i : S3072x1024.Idx) : ∃ t : P12, i ∈ (rR t).set := by
  have h0 : (i 0 : ℕ) < 3072 := (i 0).isLt
  have h1 : (i 1 : ℕ) < 1024 := (i 1).isLt
  refine ⟨(⟨(i 0 : ℕ) / 512 % 2, by omega⟩, ⟨(i 0 : ℕ) / 1024, by omega⟩, ⟨(i 0 : ℕ) / 256 % 2, by omega⟩), (Rect.mem_set_unit (inb := roff_inb _ _ _)).mpr fun a => ?_⟩
  match a with
  | 0 =>
    show 1024 * ((i 0 : ℕ) / 1024) + 512 * ((i 0 : ℕ) / 512 % 2) + 256 * ((i 0 : ℕ) / 256 % 2) ≤ (i 0 : ℕ)
      ∧ (i 0 : ℕ) < 1024 * ((i 0 : ℕ) / 1024) + 512 * ((i 0 : ℕ) / 512 % 2) + 256 * ((i 0 : ℕ) / 256 % 2) + 256
    omega
  | 1 => show 0 ≤ (i 1 : ℕ) ∧ (i 1 : ℕ) < 0 + 1024; omega

theorem cover {T : Type} [Fintype T] {sh : Shape} (r : T → Rect sh) (h : ∀ i, ∃ t, i ∈ (r t).set) :
    (Finset.univ : Finset T).biUnion (fun t => (r t).set) = Finset.univ :=
  Finset.eq_univ_iff_forall.mpr fun i => by
    obtain ⟨t, ht⟩ := h i
    exact Finset.mem_biUnion.mpr ⟨t, Finset.mem_univ _, ht⟩

/-! ## Families of pieces, listed -/

theorem sep4 (Φ : Fin 2 × Fin 2 → sProp 𝕄) : bigSep Finset.univ Φ = all4 (fun d q => Φ (d, q)) :=
  bigSep_univ_eq_bigSepL [(0, 0), (1, 0), (0, 1), (1, 1)] (by decide) (by decide) Φ

theorem sep16 (Φ : ℕ → Fin 2 → Fin 2 → sProp 𝕄) : bigSep Finset.univ (fun t : P16 => Φ t.1.val t.2.1 t.2.2) = all16 Φ := by
  rw [bigSep_univ_prod, bigSep_congr (s := Finset.univ) fun (j : Fin 4) _ => sep4 (fun p => Φ j.val p.1 p.2)]
  exact bigSep_univ_eq_bigSepL [0, 1, 2, 3] (by decide) (by decide) fun j : Fin 4 => all4 (Φ j.val)

theorem chE_inj (c : Dev nD) : Function.Injective fun t : P16 => ((ch t.2.1 c t.1.val, t.2) : P16) := by
  revert c; decide +kernel
/-- Chunks, counted from a device's own in each direction. -/
def chE (c : Dev nD) : P16 ≃ P16 := Equiv.ofBijective _ (Finite.injective_iff_bijective.mp (chE_inj c))

theorem sep16_ch (c : Dev nD) (Φ : Fin 4 → Fin 2 → Fin 2 → sProp 𝕄) :
    bigSep Finset.univ (fun t : P16 => Φ t.1 t.2.1 t.2.2) = all16 (fun j d q => Φ (ch d c j) d q) := by
  rw [bigSep_univ_equiv (chE c), ← sep16]
  rfl

theorem sep12 (Φ : Fin 2 → Fin 3 → Fin 2 → sProp 𝕄) : bigSep Finset.univ (fun t : P12 => Φ t.1 t.2.1 t.2.2)
    = iprop((Φ 0 0 0 ∗ Φ 0 0 1 ∗ Φ 0 1 0 ∗ Φ 0 1 1 ∗ Φ 0 2 0 ∗ Φ 0 2 1) ∗ (Φ 1 0 0 ∗ Φ 1 0 1 ∗ Φ 1 1 0 ∗ Φ 1 1 1 ∗ Φ 1 2 0 ∗ Φ 1 2 1)) := by
  rw [bigSep_univ_prod, bigSep_congr (s := Finset.univ) fun (d : Fin 2) _ =>
    bigSep_univ_eq_bigSepL [(0, 0), (0, 1), (1, 0), (1, 1), (2, 0), (2, 1)] (by decide) (by decide) fun p : Fin 3 × Fin 2 => Φ d p.1 p.2]
  exact bigSep_univ_eq_bigSepL [0, 1] (by decide) (by decide) fun d : Fin 2 =>
    iprop(Φ d 0 0 ∗ Φ d 0 1 ∗ Φ d 1 0 ∗ Φ d 1 1 ∗ Φ d 2 0 ∗ Φ d 2 1)

/-- The landing regions, the step first. -/
def sdE : Fin 3 × Fin 2 × Fin 2 ≃ P12 := ⟨fun t => (t.2.1, t.1, t.2.2), fun t => (t.2.1, t.1, t.2.2), fun _ => rfl, fun _ => rfl⟩
theorem sep12' (Φ : Fin 2 → Fin 3 → Fin 2 → sProp 𝕄) : bigSep Finset.univ (fun t : P12 => Φ t.1 t.2.1 t.2.2)
    = iprop(all4 (fun d q => Φ d 0 q) ∗ all4 (fun d q => Φ d 1 q) ∗ all4 (fun d q => Φ d 2 q)) := by
  rw [bigSep_univ_equiv sdE, bigSep_univ_prod]
  show (bigSep Finset.univ fun s : Fin 3 => bigSep Finset.univ fun p : Fin 2 × Fin 2 => Φ p.1 s p.2) = _
  rw [bigSep_congr (s := Finset.univ) fun (s : Fin 3) _ => sep4 (fun p => Φ p.1 s p.2)]
  exact bigSep_univ_eq_bigSepL [0, 1, 2] (by decide) (by decide) fun s : Fin 3 => all4 (fun d q => Φ d s q)

theorem sep24 (Φ : XT → sProp 𝕄) : bigSep Finset.univ Φ = all24 Φ := by
  have h3 (a : Fin 2) : bigSep Finset.univ (fun t : P12 => Φ (a, t)) = _ := sep12' (fun d s q => Φ (a, d, s, q))
  rw [bigSep_univ_prod, bigSep_congr (s := Finset.univ) fun a _ => h3 a]
  exact bigSep_univ_eq_bigSepL [0, 1] (by decide) (by decide) fun a : Fin 2 =>
    iprop(all4 (fun d q => Φ (a, d, 0, q)) ∗ all4 (fun d q => Φ (a, d, 1, q)) ∗ all4 (fun d q => Φ (a, d, 2, q)))

/-! ## Cutting and joining -/

instance float_nonempty (t : FTy) : Nonempty (F t) := ⟨FloatOps.ofBits t 0⟩

theorem cut_h (c : Dev nD) : (iprop(∃ f, ((c : Thread nD τ).loc cc0_scratch0) ↦{fullShare} f) : sProp 𝕄)
    ⊢ all16 (fun j d q => hA (F := F) c (ch d c j) d q) := by
  rw [← sep16_ch c (fun k d q => hA (F := F) c k d q)]
  iintro ⟨%f, H⟩
  ihave H := (Entails.of_eq (owns_whole (c : Thread nD τ) cc0_scratch0 fullShare f).symm) $$ H
  iapply ((owns_rects (c : Thread nD τ) hM fullShare hR (fun _ _ => rfl) hR_disj (cover hR hR_mem) f).trans
    (bigSep_mono fun t _ => show _ ⊢ hA c t.1 t.2.1 t.2.2 from by unfold hA; iintro H; iexists _; iexact H)) $$ H

theorem cut_o (c : Dev nD) (f : (cc0_stg3_0 : Ref sig .tc).ty.Contents (Elt F)) : ((((c : Thread nD τ).loc cc0_stg3_0) ↦{fullShare} f) : sProp 𝕄)
    ⊢ all16 (fun j d q => oA (F := F) c (ch d c j) d q) := by
  rw [← sep16_ch c (fun k d q => oA (F := F) c k d q)]
  iintro H
  ihave H := (Entails.of_eq (owns_whole (c : Thread nD τ) cc0_stg3_0 fullShare f).symm) $$ H
  iapply ((owns_rects (c : Thread nD τ) oM fullShare xR (fun _ _ => rfl) xR_disj (cover xR xR_mem) f).trans
    (bigSep_mono fun t _ => show _ ⊢ oA c t.1 t.2.1 t.2.2 from by unfold oA; iintro H; iexists _; iexact H)) $$ H

theorem cut_r (c : Dev nD) : (iprop(∃ f, ((c : Thread nD τ).loc cc0_scratch1) ↦{fullShare} f) : sProp 𝕄)
    ⊢ iprop(regions (F := F) c 0 ∗ regions (F := F) c 1) := by
  unfold regions
  rw [← sep12 (fun d s q => rA (F := F) c d q s)]
  iintro ⟨%f, H⟩
  ihave H := (Entails.of_eq (owns_whole (c : Thread nD τ) cc0_scratch1 fullShare f).symm) $$ H
  iapply ((owns_rects (c : Thread nD τ) rM fullShare rR (fun _ _ => rfl) rR_disj (cover rR rR_mem) f).trans
    (bigSep_mono fun t _ => show _ ⊢ rA c t.1 t.2.2 t.2.1 from by unfold rA; iintro H; iexists _; iexact H)) $$ H

/-- The result, piece by piece. -/
theorem out_glue (c : Dev nD) : ∃ X : S4096x1024.Idx → Elt F .f32, ∀ (t : P16) (j : (xR t).shape.Idx), X ((xR t).emb j) = outp m c t.1 t.2.1 t.2.2 j :=
  glue xR xR_disj fun t j => outp m c t.1 t.2.1 t.2.2 j
/-- The whole result of one device. -/
def outAt (c : Dev nD) : (cc0_stg3_0 : Ref sig .tc).ty.Contents (Elt F) := (out_glue m c).choose
theorem outAt_spec (c : Dev nD) (t : P16) (j : (xR t).shape.Idx) : outAt m c ((xR t).emb j) = outp m c t.1 t.2.1 t.2.2 j :=
  (out_glue m c).choose_spec t j

theorem join_o (c : Dev nD) : all16 (fun j d q => oP (F := F) c (ch d c j) d q (outp m c (ch d c j) d q))
    ⊢ ((((c : Thread nD τ).loc cc0_stg3_0) ↦{fullShare} outAt m c) : sProp 𝕄) := by
  rw [← sep16_ch c (fun k d q => oP c k d q (outp m c k d q)), ← owns_whole]
  refine BI.Entails.trans (bigSep_mono fun t _ => ?_)
    (owns_of_rects (c : Thread nD τ) oM fullShare xR (fun _ _ => rfl) xR_disj (cover xR xR_mem) (outAt m c))
  rw [show (fun j => outAt m c ((xR t).emb j)) = outp m c t.1 t.2.1 t.2.2 from funext fun j => outAt_spec m c t j]
  unfold oP
  exact BI.Entails.refl _

theorem join_h (c : Dev nD) : all16 (fun j d q => hP (F := F) c (ch d c j) d q fullShare (acc m d (ch d c j) q 3))
    ⊢ (iprop(∃ f, ((c : Thread nD τ).loc cc0_scratch0) ↦{fullShare} f) : sProp 𝕄) := by
  rw [← sep16_ch c (fun k d q => hP c k d q fullShare (acc m d k q 3))]
  obtain ⟨X, hX⟩ := glue (V := Elt F .bf16) hR hR_disj fun t => up (acc m t.2.1 t.1 t.2.2 3)
  refine BI.Entails.trans ?_ (show owns (c : Thread nD τ) hM fullShare X ⊢ _ from by
    rw [owns_whole]; iintro H; iexists _; iexact H)
  refine BI.Entails.trans (bigSep_mono fun t _ => ?_)
    (owns_of_rects (c : Thread nD τ) hM fullShare hR (fun _ _ => rfl) hR_disj (cover hR hR_mem) X)
  rw [show (fun j => X ((hR t).emb j)) = up (acc m t.2.1 t.1 t.2.2 3) from funext fun j => hX t j]
  unfold hP
  exact BI.Entails.refl _

theorem join_r (c : Dev nD) : iprop(all4 (fun d q => rA (F := F) c d q 0) ∗ all4 (fun d q => rA (F := F) c d q 1) ∗ all4 (fun d q => rA (F := F) c d q 2))
    ⊢ (iprop(∃ f, ((c : Thread nD τ).loc cc0_scratch1) ↦{fullShare} f) : sProp 𝕄) := by
  rw [← sep12' (fun d s q => rA (F := F) c d q s)]
  have e : (bigSep Finset.univ fun t : P12 => rA (F := F) c t.1 t.2.2 t.2.1)
      ⊢ iprop(∃ Y : P12 → S256x1024.Idx → Elt F .bf16, bigSep Finset.univ fun t : P12 => rP (F := F) c t.1 t.2.2 t.2.1 (Y t)) :=
    BI.bigSep_exists_pi Finset.univ fun (t : P12) (Y : S256x1024.Idx → Elt F .bf16) => rP (F := F) c t.1 t.2.2 t.2.1 Y
  iintro H
  ihave H := e $$ H
  icases H with ⟨%Y, H⟩
  obtain ⟨X, hX⟩ := glue (V := Elt F .bf16) rR rR_disj fun t => Y t
  iexists X
  rw [← owns_whole]
  have h : (bigSep Finset.univ fun t : P12 => rP (F := F) c t.1 t.2.2 t.2.1 (Y t)) ⊢ owns (c : Thread nD τ) rM fullShare X := by
    refine BI.Entails.trans (bigSep_mono fun t _ => ?_)
      (owns_of_rects (c : Thread nD τ) rM fullShare rR (fun _ _ => rfl) rR_disj (cover rR rR_mem) X)
    rw [show (fun j => X ((rR t).emb j)) = Y t from funext fun j => hX t j]
    unfold rP
    exact BI.Entails.refl _
  iapply h $$ H

end Cert.Duplex
-- ==== Proof.Launch.lean ====
module

public import proofs.«01_k».proof.Proof.Split

@[expose] public section

noncomputable section

namespace Cert.Duplex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! # The launch

The cells are opened with their schedules, each device is dealt the duties it will pay and the credit it will spend,
and the run of the whole program follows from the run of one device. -/

/-- The kernel's scoped semaphores outside the pipeline: the exit handshake's and the transfers'. -/
abbrev OK : Type := Unit ⊕ (Fin 2 × XT)
abbrev osem : OK → SemLoc sig := Sum.elim (fun _ => csem (.inl 1)) (fun p => csem (.inr p))

set_option maxRecDepth 4000 in
theorem ownSemFacts : Pipeline.OwnSemFacts cfg0.spec osem := by decide +kernel

theorem kcell_inj : Function.Injective (kcell : Dev nD × CK → GSem nD τ sig) := by
  rintro ⟨c, k⟩ ⟨c', k'⟩ h
  have h1 : c = c' := congrArg (fun g : GSem nD τ sig => g.1.1) h
  have h2 : k = k' := csem_inj (congrArg Prod.snd h)
  rw [h1, h2]
def ringCells : Finset (GSem nD τ sig) := Finset.univ.map ⟨kcell, kcell_inj⟩

/-- The duties: two at each handshake's cell, one at each transfer's. -/
abbrev TK : Type := (Fin 2 × Fin 2) ⊕ (Fin 2 × XT)
def tokOf (p : Dev nD × TK) : GSem nD τ sig × ℕ × Fin 2 := match p.2 with
  | .inl (i, e) => (kcell (p.1, .inl i), 0, e)
  | .inr y => (kcell (p.1, .inr y), 0, 0)
theorem tokOf_inj : Function.Injective tokOf := by
  rintro ⟨c, (⟨i, e⟩ | y)⟩ ⟨c', (⟨i', e'⟩ | y')⟩ h <;>
    (have h1 := kcell_inj (congrArg Prod.fst h : kcell _ = kcell _); have h2 : _ = _ := congrArg (fun x : GSem nD τ sig × ℕ × Fin 2 => x.2.2) h;
      simp only [Prod.mk.injEq, Sum.inl.injEq, Sum.inr.injEq, reduceCtorEq, and_false] at h1)
  · obtain ⟨rfl, rfl⟩ := h1
    have : e = e' := h2
    rw [this]
  · obtain ⟨rfl, rfl⟩ := h1
    rfl
def ringToks : Finset (GSem nD τ sig × ℕ × Fin 2) := Finset.univ.map ⟨tokOf, tokOf_inj⟩

def u₀ : UU := (initOf (Pipeline.cells cfgs cellOf_inj) (Pipeline.launchToks cfgs cellOf_inj), initOf ringCells ringToks)

def tok (p : Dev nD × TK) : sProp 𝕄 := dutyTok ER (tokOf p).1 (tokOf p).2.1 (tokOf p).2.2

/-- The device that pays a duty is the one whose neighbour this is: the cell at which device `c` pays it. -/
def shift : TK → Dev nD → Dev nD
  | .inl (_, e) => nx (1 - e)
  | .inr (0, _) => id
  | .inr (1, x) => nx x.2.1
theorem nx_inj (d : Fin 2) : Function.Injective (nx d) := by revert d; decide
theorem shift_inj (t : TK) : Function.Injective (shift t) := by
  rcases t with ⟨_, e⟩ | ⟨b, x⟩
  · exact nx_inj _
  · match b with
    | 0 => exact Function.injective_id
    | 1 => exact nx_inj _
def shiftE : Dev nD × TK ≃ Dev nD × TK :=
  Equiv.ofBijective (fun p => (shift p.2 p.1, p.2)) (Finite.injective_iff_bijective.mp fun p p' h => by
    obtain ⟨c, t⟩ := p; obtain ⟨c', t'⟩ := p'
    have h2 : t = t' := congrArg Prod.snd h
    subst h2
    have h1 : shift t c = shift t c' := congrArg Prod.fst h
    rw [shift_inj t h1])

/-- The duty tokens of a device's own cells, -/
def toks (c : Dev nD) : sProp 𝕄 := bigSep Finset.univ fun t : TK => tok (F := F) (c, t)
/-- and those of the duties it pays. -/
def payToks (c : Dev nD) : sProp 𝕄 := bigSep Finset.univ fun t : TK => tok (F := F) (shift t c, t)

theorem toks_around : (bigSep Finset.univ fun c : Dev nD => toks (F := F) c) = bigSep Finset.univ fun c : Dev nD => payToks (F := F) c := by
  unfold toks payToks
  rw [← bigSep_univ_prod (fun p : Dev nD × TK => tok (F := F) p), bigSep_univ_equiv shiftE, bigSep_univ_prod]
  rfl

def ats (c : Dev nD) : sProp 𝕄 := bigSep Finset.univ fun k : CK => atPos ER (kcell (c, k)) 0 ∅ 0
def G (c : Dev nD) : sProp 𝕄 :=
  iprop((bigSep Finset.univ fun k : CK => roundState ER (rd (F := F) m) (kcell (c, k)) 0) ∗ ats (F := F) c
    ∗ (bigSep Finset.univ fun k : CK => reached ER (kcell (c, k)) 0) ∗ toks (F := F) c)
def G' (c : Dev nD) : sProp 𝕄 := iprop(∃ K, records (F := F) m K ∗ ats (F := F) c ∗ payToks (F := F) c)

theorem fund_ring : BI.own (ER (initOf ringCells ringToks)) ⊢ (|==> bigSep Finset.univ (G (F := F) m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks toks; rw [bigSep_map, bigSep_univ_prod]; rfl
  iintro HX
  imod (Rounds.fund ER (rd (F := F) m) ringCells ringToks) $$ HX with ⟨Hst, Hr, Hat, Htok⟩
  imodintro
  ihave Hst' := (Entails.of_eq (hX fun g => roundState ER (rd (F := F) m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G ats; simp only [bigSep_sep']
  iframe

/-! ## The counters -/

theorem sepCK (Φ : CK → sProp 𝕄) : bigSep Finset.univ Φ = iprop((Φ (.inl 0) ∗ Φ (.inl 1)) ∗ bigSep Finset.univ fun p => Φ (.inr p)) := by
  rw [bigSep_univ_sum]
  exact congrArg (fun X => iprop(X ∗ bigSep Finset.univ fun p => Φ (.inr p))) (bigSep_univ_eq_bigSepL [0, 1] (by decide) (by decide) fun i : Fin 2 => Φ (.inl i))

theorem ownSems0_eq (c : Dev nD) : (Pipeline.ownSems0 (Ix := Unit) (Name := ℕ) (U := UU) (Lvl := ℕ) (Val := Elt F) (τ := τ) osem c : sProp 𝕄)
    = iprop(semVal (kcell (c, .inl 1)) 0 ∗ bigSep Finset.univ fun p => semVal (kcell (c, .inr p)) 0) := by
  unfold Pipeline.ownSems0
  rw [bigSep_univ_sum]
  exact congrArg (fun X => iprop(X ∗ bigSep Finset.univ fun p : Fin 2 × XT => semVal (kcell (c, .inr p)) 0))
    (bigSep_univ_eq_bigSepL [()] (by decide) (by decide) fun _ : Unit => semVal (kcell (c, .inl 1)) 0)
theorem unscopedSems0_eq (c : Dev nD) : (unscopedSems0 c : sProp 𝕄) = semVal (kcell (c, .inl 0)) 0 := by
  unfold unscopedSems0; rw [bigSep_eq_bigSepL_of_eq [SemLoc.reg barS] (by decide) (by decide)]; rfl

def vals (c : Dev nD) : sProp 𝕄 := bigSep Finset.univ fun k : CK => semVal (kcell (c, k)) 0
theorem vals_of (c : Dev nD) :
    iprop(Pipeline.ownSems0 (Ix := Unit) (Name := ℕ) (U := UU) (Lvl := ℕ) (Val := Elt F) (τ := τ) osem c ∗ unscopedSems0 c) ⊢ (vals c : sProp 𝕄) := by
  unfold vals
  rw [ownSems0_eq, unscopedSems0_eq, sepCK]
  iintro ⟨⟨Hf, Hx⟩, Hb⟩
  iframe
theorem of_vals (c : Dev nD) :
    (vals c : sProp 𝕄) ⊢ iprop(unscopedSems0 c ∗ Pipeline.ownSems0 (Ix := Unit) (Name := ℕ) (U := UU) (Lvl := ℕ) (Val := Elt F) (τ := τ) osem c) := by
  unfold vals
  rw [ownSems0_eq, unscopedSems0_eq, sepCK]
  iintro ⟨⟨Hb, Hf⟩, Hx⟩
  iframe

theorem zs_list (c : Dev nD) (n : ℕ) : (zs (F := F) c n)
    ⊢ bigSepL ((List.range n).reverse.map fun i => zord.getD i (.inl 0)) fun k => (semVal (kcell (c, k)) 0 : sProp 𝕄) := by
  induction n with
  | zero => exact BI.Entails.refl _
  | succ n ih =>
    rw [List.range_succ, List.reverse_append, List.map_append, List.reverse_singleton, List.map_singleton, List.singleton_append, bigSepL_cons]
    exact sep_mono_right ih
theorem zs_vals (c : Dev nD) : (zs (F := F) c 50) ⊢ vals (F := F) c := by
  unfold vals
  rw [bigSep_univ_eq_bigSepL ((List.range 50).reverse.map fun i => zord.getD i (.inl 0)) (by decide +kernel) (by decide +kernel)]
  exact zs_list c 50

theorem core_alloc (c : Dev nD) :
    iprop(Pipeline.ownSems0 (Ix := Unit) (Name := ℕ) (U := UU) (Lvl := ℕ) (Val := Elt F) (τ := τ) osem c ∗ unscopedSems0 c ∗ G (F := F) m c)
      ⊢ |={Set.univ}=> iprop((bigSep Finset.univ fun k : CK => iprop(∃ κ : ℕ, cellInv ER (rd (F := F) m) κ (kcell (c, k))))
          ∗ (bigSep Finset.univ fun k : CK => reached ER (kcell (c, k)) 0) ∗ ats (F := F) c ∗ toks (F := F) c) := by
  unfold G
  iintro ⟨Hos, Hus, Hst, Hat, Hr, Htok⟩
  ihave Hv := (vals_of (F := F) c) $$ [Hos Hus]
  · iframe
  imod (show iprop(vals (F := F) c ∗ bigSep Finset.univ fun k : CK => roundState ER (rd (F := F) m) (kcell (c, k)) 0)
      ⊢ (|={Set.univ}=> bigSep Finset.univ fun k => iprop(∃ κ : ℕ, cellInv ER (rd (F := F) m) κ (kcell (c, k))) : sProp 𝕄) from by
        unfold vals
        rw [← bigSep_sep']
        exact (bigSep_mono fun k _ => (Rounds.body_intro ER (rd (F := F) m) (kcell (c, k))).trans inv_alloc).trans (bigSep_fupd _ _)) $$ [Hv Hst] with Hinv
  · iframe
  imodintro
  iframe

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (rd (F := F) m) κ (kcell (c, k))))
          ∗ (bigSep Finset.univ fun k : CK => reached ER (kcell (c, k)) 0) ∗ ats (F := F) c ∗ toks (F := F) c) : sProp 𝕄)
      ⊢ bigSep Finset.univ (G' (F := F) m) := by
  rw [bigSep_sep', bigSep_sep', bigSep_sep', ← bigSep_univ_prod (fun p : Dev nD × CK => iprop(∃ κ : ℕ, cellInv ER (rd (F := F) m) κ (kcell p))),
    ← bigSep_univ_prod (fun p : Dev nD × CK => (reached ER (kcell p) 0 : sProp 𝕄)), toks_around]
  iintro ⟨HI, #HR, Hat, Htok⟩
  ihave HK := (BI.bigSep_exists_pi Finset.univ (fun (p : Dev nD × CK) (κ : ℕ) => (cellInv ER (rd (F := F) m) κ (kcell p) : sProp 𝕄))) $$ HI
  icases HK with ⟨%K, #HI⟩
  iapply (with_persistent (R := records (F := F) m K) (Φ := fun c => iprop(ats (F := F) c ∗ payToks (F := F) c)) fun c _ => by
    unfold G'
    iintro ⟨Hr, Ha, Ht⟩
    iexists K
    iframe)
  isplitr
  · unfold records
    rw [bigSep_sep']
    isplitl; · iexact HI
    iexact HR
  · rw [bigSep_sep']
    iframe

theorem glob : (bigSep Finset.univ fun c => iprop(Pipeline.ownSems0 (Ix := Unit) (Name := ℕ) (U := UU) (Lvl := ℕ) (Val := Elt F) (τ := τ) osem c ∗ unscopedSems0 c ∗ G (F := F) m c) : sProp 𝕄)
    ⊢ |={Set.univ}=> bigSep Finset.univ (G' (F := F) m) :=
  ((bigSep_mono fun c _ => core_alloc m c).trans (bigSep_fupd _ _)).trans (BI.fupd_mono (regroup m))

/-! ## The launch credit -/

def O₀ (c : Dev nD) : CellTallies nD τ sig Unit := oweL c pays

/-- The cells whose credit comes with the launch: the handshakes' and the receivers'. -/
abbrev RK : Type := Fin 2 ⊕ XT
def rk : RK → CK := Sum.elim .inl fun x => .inr (1, x)
theorem rk_inj : Function.Injective rk := by
  rintro (i | x) (i' | x') h <;> simp only [rk, Sum.elim_inl, Sum.elim_inr, Sum.inl.injEq, Sum.inr.injEq, Prod.mk.injEq, reduceCtorEq, true_and] at h <;> rw [h]

theorem owed_at (d c : Dev nD) (k : CK) (l : List (Fin 2 × CK)) :
    oweL d l (kcell (c, k)) () = amt k * l.countP (fun p => decide ((nx p.1 d, p.2) = (c, k))) := by
  induction l with
  | nil => rfl
  | cons p l ih =>
    unfold oweL
    rw [Pi.add_apply, Finsupp.add_apply, ih, tallyAt_apply, List.countP_cons, Nat.mul_add]
    congr 1
    by_cases h : (nx p.1 d, p.2) = (c, k)
    · rw [if_pos ⟨by rw [h], rfl⟩, if_pos (decide_eq_true h), Nat.mul_one, show p.2 = k from congrArg Prod.snd h]
    · rw [if_neg (fun hh => h (kcell_inj hh.1).symm), if_neg (by rw [decide_eq_true_eq]; exact h), Nat.mul_zero]

theorem count_pays (c : Dev nD) (k : RK) :
    (∑ d : Dev nD, pays.countP (fun p => decide ((nx p.1 d, p.2) = (c, rk k)))) = Sum.elim (fun _ => 2) (fun _ => 1) k := by
  revert c k; decide +kernel

theorem launch_at (c : Dev nD) (k : RK) :
    tallyOn (kcell (c, rk k)) (launchCredit (Pipeline.owing O₀) 0 (kcell (c, rk k))) = (tallyAt (kcell (c, rk k)) () (tot (rk k)) : CellTallies nD τ sig Unit) := by
  unfold tallyAt; refine congrArg _ (Finsupp.ext fun u => ?_); cases u
  rw [Pipeline.launchCredit_owing, Finsupp.single_eq_same]
  show (∑ d : Dev nD, oweL d pays (kcell (c, rk k)) ()) = _
  rw [Finset.sum_congr rfl fun d _ => owed_at d c (rk k) pays, ← Finset.mul_sum, count_pays]
  rcases k with i | x
  · rfl
  · exact Nat.mul_one _

def creds (c : Dev nD) : sProp 𝕄 := bigSep Finset.univ fun k : RK => cred (tallyAt (kcell (c, rk k)) () (tot (rk k)))
theorem creds_intro (c : Dev nD) : (Pipeline.launchCred O₀ c : sProp 𝕄) ⊢ creds (F := F) c := by
  unfold Pipeline.launchCred creds
  have h := bigSep_map (M := 𝕄) (s := (Finset.univ : Finset RK)) (⟨fun k => csem (rk k), fun _ _ h => rk_inj (csem_inj h)⟩ : RK ↪ SemLoc sig)
    (Φ := fun sm => cred (tallyOn ((c : Thread nD τ), sm) (launchCredit (Pipeline.owing O₀) 0 ((c : Thread nD τ), sm))))
  refine (bigSep_subset (Finset.subset_univ (Finset.univ.map (⟨fun k => csem (rk k), fun _ _ h => rk_inj (csem_inj h)⟩ : RK ↪ SemLoc sig)))).trans ?_
  rw [h]
  exact bigSep_mono fun k _ => Entails.of_eq (congrArg (fun t => cred t) (launch_at c k))

/-- A device's dealings, one by one. -/
theorem deal (c : Dev nD) : iprop(ats (F := F) c ∗ payToks (F := F) c ∗ creds (F := F) c)
    ⊢ iprop(hand (F := F) c 0 ∗ hand (F := F) c 1 ∗ all24 (fun x => SB (F := F) c x) ∗ all24 (fun x => WT (F := F) c 1 x)) := by
  have hf (Φ : Fin 2 → sProp 𝕄) : bigSep Finset.univ Φ = iprop(Φ 0 ∗ Φ 1) := bigSep_univ_eq_bigSepL [0, 1] (by decide) (by decide) Φ
  have hs {A B : Type} [Fintype A] [Fintype B] (Φ : A ⊕ B → sProp 𝕄) : bigSep Finset.univ Φ
      = iprop((bigSep Finset.univ fun a => Φ (.inl a)) ∗ bigSep Finset.univ fun b => Φ (.inr b)) := bigSep_univ_sum Φ
  have h0 (i : Fin 2) : tok (F := F) (shift (.inl (i, 0)) c, .inl (i, 0)) = dutyTok ER (kcell (nx 1 c, .inl i)) 0 0 := rfl
  have h1 (i : Fin 2) : tok (F := F) (shift (.inl (i, 1)) c, .inl (i, 1)) = dutyTok ER (kcell (nx 0 c, .inl i)) 0 1 := rfl
  rw [← sep24, ← sep24]
  unfold ats payToks creds SB WT hand
  rw [bigSep_sep', bigSep_sep', bigSep_sep', hs, hs, hs, bigSep_univ_prod, bigSep_univ_prod, bigSep_univ_prod,
    hf, hf, hf, hf, hf, hf, hf, h0, h0, h1, h1]
  iintro ⟨⟨⟨Ha0, Ha1⟩, HaS, HaR⟩, ⟨⟨⟨T00, T01⟩, T10, T11⟩, HtS, HtR⟩, ⟨C0, C1⟩, HC⟩
  isplitl [T00 T01 Ha0 C0]
  · isplitl [T00]; · iexact T00
    isplitl [T01]; · iexact T01
    isplitl [Ha0]; · iexact Ha0
    iexact C0
  isplitl [T10 T11 Ha1 C1]
  · isplitl [T10]; · iexact T10
    isplitl [T11]; · iexact T11
    isplitl [Ha1]; · iexact Ha1
    iexact C1
  isplitl [HtS HtR HaS]
  · isplitl [HtS]; · iexact HtS
    isplitl [HtR]; · iexact HtR
    iexact HaS
  isplitl [HaR]; · iexact HaR
  iexact HC

end Cert.Duplex
-- ==== Proof.Run.lean ====
module

public import proofs.«01_k».proof.Proof.Launch
public import Idealize.ShloMosaic.Lib.Pipeline.CollectiveSegs

@[expose] public section

noncomputable section

namespace Cert.Duplex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! # The run of the whole program -/

variable (ρ : Dev nD → PrngReg)

abbrev s₀ : MemSt nD τ sig (Elt F) := ⟨m, fun _ => 0, ρ⟩

/-- What a device's run starts from, beside the buffers, -/
def start (c : Dev nD) : sProp 𝕄 := iprop(G' (F := F) m c ∗ creds (F := F) c ∗ levAts L lv)
/-- the scratch buffers at some contents, -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- and what it leaves: them and every counter at zero. -/
def done (c : Dev nD) : sProp 𝕄 := iprop(scr (F := F) c ∗ vals (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => w1stg m c
    | ⟨2, _⟩ => w2stg m c
    | ⟨3, _⟩ => outAt m c
  Φ t := match t with
    | ⟨0, _⟩ => iprop(start m c ∗ scr (F := F) c)
    | ⟨_ + 1, _⟩ => done c
  q _ := fullShare
  owed t := match t with
    | ⟨0, _⟩ => O₀ c
    | ⟨_ + 1, _⟩ => 0

theorem fetch_0 (t : Fin cfg0.N) : (cfg0.win (0 : Fin 4)).fetch t = true := by rw [fin_N0 t]; rfl
theorem fetch_1 (t : Fin cfg0.N) : (cfg0.win (1 : Fin 4)).fetch t = true := by rw [fin_N0 t]; rfl
theorem fetch_2 (t : Fin cfg0.N) : (cfg0.win (2 : Fin 4)).fetch t = true := by rw [fin_N0 t]; rfl

theorem owns_stg (c : Dev nD) (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} X) := owns_whole (c : Thread nD τ) b fullShare X

abbrev stg (c : Dev nD) (b : Ref sig .tc) (X : b.ty.Contents (Elt F)) : sProp 𝕄 := ((c : Thread nD τ).loc b) ↦{fullShare} X

def bodyPre (c : Dev nD) : sProp 𝕄 :=
  iprop((start m c ∗ scr (F := F) c) ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(done (F := F) c ∗ (dats m ρ 0 c).owesAt () t0_0.succ
    ∗ stg c cc0_stg0_0 (xstg m c) ∗ stg c cc0_stg1_0 (w1stg m c) ∗ stg c cc0_stg2_0 (w2stg m c) ∗ stg c cc0_stg3_0 (outAt m c))

theorem owd_in (c : Dev nD) : (dats m ρ 0 c).owesAt () t0_0.castSucc ⊢ owd (F := F) c 0 := by
  unfold Dat.owesAt Pipeline.owesWithin owd
  iintro ⟨%W, -, H⟩
  iexists W
  rw [show (dats m ρ 0 c).owed t0_0.castSucc = oweL c (pays.drop 0) from rfl]
  iexact H
theorem owd_out (c : Dev nD) : owd (F := F) c 28 ⊢ (dats m ρ 0 c).owesAt () t0_0.succ := by
  unfold Dat.owesAt Pipeline.owesWithin owd
  iintro ⟨%W, H⟩
  iexists W
  rw [show (dats m ρ 0 c).owed t0_0.succ = oweL c (pays.drop 28) from rfl]
  isplitr; · ipureintro; exact fun _ _ => Or.inl trivial
  iexact H

theorem body_in (c : Dev nD) : bodyPre m ρ c ⊢ iprop(∃ K, ctx (F := F) m K ∗ bodyIn m c) := by
  have e0 (d) : (dats m ρ 0 c).before (0 : Fin 4) t0_0 d = xstg m c := by unfold Dat.before; rw [if_pos (fetch_0 t0_0)]; rfl
  have e1 (d) : (dats m ρ 0 c).before (1 : Fin 4) t0_0 d = w1stg m c := by unfold Dat.before; rw [if_pos (fetch_1 t0_0)]; rfl
  have e2 (d) : (dats m ρ 0 c).before (2 : Fin 4) t0_0 d = w2stg m c := by unfold Dat.before; rw [if_pos (fetch_2 t0_0)]; rfl
  unfold bodyPre start scr G'
  simp only [e0, e1, e2]
  iintro ⟨⟨⟨⟨%K, Hrec, Hat, Ht⟩, Hc, Hlev⟩, H0, H1, H2⟩, Ho, ⟨%_, Hx⟩, ⟨%_, Hw1⟩, ⟨%_, Hw2⟩, %d3, Hout⟩
  iexists K
  ihave Ho := (owd_in m ρ c) $$ Ho
  ihave HH := (cut_h (F := F) c) $$ H0
  ihave HR := (cut_r (F := F) c) $$ H1
  icases HR with ⟨HR0, HR1⟩
  ihave HO := (cut_o (F := F) c _) $$ Hout
  ihave HD := (deal (F := F) c) $$ [Hat Ht Hc]
  · iframe
  icases HD with ⟨Hh0, Hh1, HS, HW⟩
  isplitl [Hrec Hlev]
  · unfold ctx
    iframe
  unfold bodyIn xW w1W w2W wbA
  isplitl [Hx]; · iexact Hx
  isplitl [Hw1]; · iexact Hw1
  isplitl [Hw2]; · iexact Hw2
  isplitl [H2]; · iexact H2
  isplitl [Hh0]; · iexact Hh0
  isplitl [Hh1]; · iexact Hh1
  isplitl [HR0]; · iexact HR0
  isplitl [HR1]; · iexact HR1
  isplitl [HH]; · iexact HH
  isplitl [HO]; · iexact HO
  isplitl [HS]; · iexact HS
  isplitl [HW]; · iexact HW
  isplitl [Ho]; · iexact Ho
  unfold zs
  iempintro

theorem body_out (c : Dev nD) : bodyOut m c ⊢ bodyPost m ρ c := by
  unfold bodyOut bodyPost done scr xW w1W w2W wbP
  iintro ⟨Hx, Hw1, Hw2, Hwb, HR, HH, HO, Ho, Hz⟩
  ihave Ho := (owd_out m ρ c) $$ Ho
  ihave HH := (join_h m c) $$ HH
  ihave HR := (join_r (F := F) c) $$ HR
  ihave HO := (join_o m c) $$ HO
  ihave Hz := (zs_vals (F := F) c) $$ Hz
  isplitl [HH HR Hwb Hz]
  · isplitl [HH HR Hwb]
    · isplitl [HH]; · iexact HH
      isplitl [HR]; · iexact HR
      iexists _
      iexact Hwb
    iexact Hz
  isplitl [Ho]; · iexact Ho
  isplitl [Hx]; · iexact Hx
  isplitl [Hw1]; · iexact Hw1
  isplitl [Hw2]; · iexact Hw2
  iexact HO

set_option maxRecDepth 100000 in
theorem body_obligation (c : Dev nD) : BodyObligation (dats (F := F) m ρ 0 c) (defs₀ (F := F)) 𝒱₀ () Set.univ := fun t => by
  rw [fin_N0 t]
  rw [bigSep_W0, bigSep_W0]
  simp only [owns_stg]
  show bodyPre m ρ c ⊢ run c (cc0_body xM (Memref.isWhole_whole _) w1M (Memref.isWhole_whole _) w2M (Memref.isWhole_whole _) oM (Memref.isWhole_whole _)
          hM (Memref.isWhole_whole _) rM (Memref.isWhole_whole _) w2bM (Memref.isWhole_whole _)
          cc0_scratch3 cc0_scratch4 cc0_scratch5 cc0_scratch6 cc0_scratch7 cc0_scratch8 cc0_scratch9 cc0_scratch10 cc0_scoped0) (fun _ => bodyPost m ρ c)
  iintro H
  ihave H := (body_in m ρ c) $$ H
  icases H with ⟨%K, Hctx, H⟩
  iapply (body_run m K c fun _ => bodyPost m ρ c) $$ Hctx H
  iintro H
  iapply (body_out m ρ c)
  iexact H

/-! ## The side conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start (F := F) m c ∗ emp) := by
  iintro ⟨-, Hlev, Hcr, -, HG⟩
  ihave Hc := (creds_intro (F := F) c) $$ Hcr
  imodintro
  unfold start
  isplitl
  · iframe
  · iempintro

theorem phi0_intro (c : Dev nD) :
    iprop(start m c ∗ Pipeline.prefHeld Pipeline.Prefetch.none c (fun _ => fullShare.right) (fun k => k.elim0) ∗ Pipeline.scopedRest cfg0.spec c)
      ⊢ (dats (F := F) m ρ 0 c).Φ 0 := by
  rw [show (dats m ρ 0 c).Φ 0 = iprop(start m c ∗ scr (F := F) c) from rfl, show cfg0.spec = spec0 from rfl, scopedRest0_eq]
  unfold scr
  iintro ⟨Hs, -, Hr⟩
  isplitl [Hs]; · iexact Hs
  iexact Hr

theorem phi1_exit (c : Dev nD) :
    (dats (F := F) m ρ 0 c).Φ (Fin.last cfg0.N) ⊢ iprop(unscopedSems0 c ∗ Pipeline.ownSems0 osem c ∗ Pipeline.scopedRest cfg0.spec c) := by
  rw [show (dats m ρ 0 c).Φ (Fin.last cfg0.N) = done (F := F) c from rfl, show cfg0.spec = spec0 from rfl, scopedRest0_eq]
  unfold done scr
  iintro ⟨Hr, Hv⟩
  ihave Hv := (of_vals (F := F) c) $$ Hv
  icases Hv with ⟨Hu, Ho⟩
  isplitl [Hu]; · iexact Hu
  isplitl [Ho]; · iexact Ho
  iexact Hr

theorem stage_low (w : Fin cfg0.W) (s : Fin (cfg0.win w).nbuf) : ∀ p ∈ pays, lvS (.dma ((cfg0.win w).sem s)) < lvK p.2 := by
  revert w s; decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ pays (stage_low w s)
    · exact mayWait c _ [] fun p hp => absurd hp List.not_mem_nil

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Every weakly fair execution on the four devices, from any memory with zero counters and for any float values, ends
    with each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run hold what they held. -/
theorem finalA_0 (c : Dev nD) : finalA m ρ c (0 : Fin 4) = m (win0_0.arr.view.loc (c : Thread nD τ)) := (dats (F := F) m ρ 0 c).arrAt_in (0 : Fin 4) rfl _
theorem finalA_1 (c : Dev nD) : finalA m ρ c (1 : Fin 4) = m (win0_1.arr.view.loc (c : Thread nD τ)) := (dats (F := F) m ρ 0 c).arrAt_in (1 : Fin 4) rfl _
theorem finalA_2 (c : Dev nD) : finalA m ρ c (2 : Fin 4) = m (win0_2.arr.view.loc (c : Thread nD τ)) := (dats (F := F) m ρ 0 c).arrAt_in (2 : Fin 4) rfl _

/-- What both kernels' frames say: the arguments as they were, every counter at zero. -/
theorem run_args : θ_run defs (onTc (τ := τ) (main (F := F))) (s₀ m ρ) (fun r => QC m ρ r ∧ (∀ c : Dev nD,
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun r h => ⟨h.1, fun c =>
    ⟨(h.1 c (0 : Fin 4)).trans (finalA_0 m ρ c), (h.1 c (1 : Fin 4)).trans (finalA_1 m ρ c), (h.1 c (2 : Fin 4)).trans (finalA_2 m ρ c)⟩, h.2⟩) (run_main m ρ)

end Cert.Duplex
-- ==== Proof.Value.lean ====
module

public import proofs.«01_k».proof.Proof.Run
public import proofs.«01_k».proof.Proof.Gen.KernelIdeal.Points
public import Idealize.ShloMosaic.Lib.MatmulPlain
public import Idealize.ShloMosaic.Lib.StackMember
public import Idealize.ShloMosaic.Lib.Layout

@[expose] public section

noncomputable section

namespace Cert.Duplex

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open scoped BigOperators
open Idealize.ShloMosaic.Pipeline (Dat Cfg Window BodyObligation cellOf)

/-! # What the windows hold -/

section Windows

variable {F : FTy → Type} [FloatOps F]
variable (m : (ℓ : Loc nD τ sig) → Buf (Elt F) ℓ) (ρ : Dev nD → PrngReg)

/-- Each staged operand is the device's own array. -/
theorem xstg_eq (c : Dev nD) : xstg m c = m ((c : Thread nD τ).loc main_arg0) :=
  Memref.read_access_unit_zero (Elt F) main_arg0
    (funext fun a => by fin_cases a <;> decide) (fun a => by fin_cases a <;> decide) _
theorem w1stg_eq (c : Dev nD) : w1stg m c = m ((c : Thread nD τ).loc main_arg1) :=
  Memref.read_access_unit_zero (Elt F) main_arg1
    (funext fun a => by fin_cases a <;> decide) (fun a => by fin_cases a <;> decide) _
theorem w2stg_eq (c : Dev nD) : w2stg m c = m ((c : Thread nD τ).loc main_arg2) :=
  Memref.read_access_unit_zero (Elt F) main_arg2
    (funext fun a => by fin_cases a <;> decide) (fun a => by fin_cases a <;> decide) _

/-- The one point of the grid. -/
def pt : Fin cfg0.N := (0 : Fin 1)

/-- The result array ends holding what the body left in its staging buffer. -/
theorem finalA_3 (c : Dev nD) : finalA m ρ c (3 : Fin 4) = outAt m c := by
  have hr : ∀ f : Buf (Elt F) ((c : Thread nD τ).loc main_v1), (win0_3.blk pt).view.read (Elt F) f = f := fun f =>
    Memref.read_access_unit_zero (Elt F) main_v1
      (funext fun a => by fin_cases a <;> decide) (fun a => by fin_cases a <;> decide) f
  have hw : ((cfg0.win 3).blk pt).view.read (Elt F) ((dats m ρ 0 c).arrAt 3 cfg0.N) = (dats m ρ 0 c).flushed 3 pt := by
    rw [show cfg0.N = pt.val + 1 from rfl, (dats m ρ 0 c).arrAt_succ (3 : Fin 4) pt, flush0_3, if_pos rfl]
    exact View.read_write_univ _ _
  exact ((hr _).symm.trans hw).trans (funext fun _ => rfl)

end Windows

/-! # The contents over the extended reals -/

variable (m : (ℓ : Loc nD τ sig) → Buf (Elt Ideal) ℓ)

/-- Device `e`'s columns of `x`, -/
def aX (e : Dev nD) : S4096x1024.Idx → EReal := m ((e : Thread nD τ).loc main_arg0)
/-- its rows of `W1`, -/
def aW1 (e : Dev nD) : S1024x1024.Idx → EReal := m ((e : Thread nD τ).loc main_arg1)
/-- and its columns of `W2`. -/
def aW2 (e : Dev nD) : S1024x1024.Idx → EReal := m ((e : Thread nD τ).loc main_arg2)

/-- A rounded product of one piece at an index: over the extended reals the plain product. -/
theorem pay1_apply (v : Vec Ideal S256x1024 .f32) (w : Vec Ideal S1024x1024 .f32) (i : Fin 256) (l : Fin 1024) :
    k0_pay1 v w (ix2 i l) = ∑ p : Fin 1024, (v (ix2 i p) : EReal) * w (ix2 p l) := by
  unfold k0_pay1
  rw [shapeCast_self, shapeCast_self]
  refine (Ideal.matmul_plain_apply (φ₁ := .f32) (φ₂ := .f32) none v w (constant S256x1024 .f32 0x00000000#32) i l).trans ?_
  show Ideal.ofBits .f32 0x00000000#32 + _ = _
  rw [Ideal.ofBits_zero_f32, zero_add]

/-- A partial product at an index: the sum over this device's share of the contraction. -/
theorem gp_apply (c : Dev nD) (k : Fin 4) (d q : Fin 2) (i : Fin 256) (l : Fin 1024) :
    gp m c k d q (ix2 i l) = ∑ p : Fin 1024, (xr m c k d q (ix2 i p) : EReal) * w1stg m c (ix2 p l) :=
  pay1_apply _ _ i l

/-- The devices that a chunk's sum passes are all the devices. -/
theorem sum_ring (d : Fin 2) (k : Fin 4) (f : Dev nD → EReal) :
    ((f (nxi d k 0) + f (nxi d k 1)) + f (nxi d k 2)) + f (nxi d k 3) = ∑ e : Fin 4, f e := by
  have h : Function.Bijective fun i : Fin 4 => (nxi d k i.val : Fin 4) := by revert d k; decide
  exact ((Fin.sum_univ_four fun i : Fin 4 => f (nxi d k i.val)).symm).trans (h.sum_comp f)

/-- What the ring delivers is the sum of every device's partial product. -/
theorem acc_apply (d : Fin 2) (k : Fin 4) (q : Fin 2) (j : S256x1024.Idx) :
    acc m d k q 3 j = ∑ e : Fin 4, (gp m e k d q j : EReal) :=
  sum_ring d k fun e => gp m e k d q j

/-- One piece of the result at an index. -/
theorem outp_apply (c : Dev nD) (k : Fin 4) (d q : Fin 2) (i : Fin 256) (j : Fin 1024) :
    outp m c k d q (ix2 i j) = ∑ l : Fin 1024, (∑ e : Fin 4, (gp m e k d q (ix2 i l) : EReal)) * w2stg m c (ix2 l j) := by
  show FloatOps.matmul (DotDims.plain 256 1024 1024) none (acc m d k q 3) (w2b m c) (constant S256x1024 .f32 0) (ix2 i j) = _
  rw [Ideal.matmul_plain_apply]
  show Ideal.ofBits .f32 0x00000000#32 + _ = _
  rw [Ideal.ofBits_zero_f32, zero_add]
  refine Finset.sum_congr rfl fun l _ => ?_
  rw [acc_apply]
  refine congrArg _ ?_
  unfold w2b k0_pay18
  rw [shapeCast_self, shapeCast_self]
  rfl

/-- Every row lies in one piece. -/
theorem xR_at (r : Fin 4096) : ∃ (t : P16) (i : Fin 256), ∀ p : Fin 1024,
    (xrect t.1 t.2.1 t.2.2).emb (ix2 i p : S256x1024.Idx) = ix2 r p := by
  obtain ⟨t, ht⟩ := xR_mem (ix2 r 0)
  have h : xoff t.1 t.2.1 t.2.2 0 ≤ r.val ∧ r.val < xoff t.1 t.2.1 t.2.2 0 + 256 :=
    (Rect.mem_set_unit (inb := xoff_inb _ _ _)).mp ht 0
  refine ⟨t, ⟨r.val - xoff t.1 t.2.1 t.2.2 0, by omega⟩, fun p => funext fun a => Fin.ext ?_⟩
  match a with
  | ⟨0, _⟩ => show xoff t.1 t.2.1 t.2.2 0 + 1 * (r.val - xoff t.1 t.2.1 t.2.2 0) = r.val; omega
  | ⟨1, _⟩ => show 0 + 1 * p.val = p.val; omega

/-- **The result of one device at an index**, in terms of the arrays of all the devices. -/
theorem outAt_apply (c : Dev nD) (r : Fin 4096) (j : Fin 1024) :
    (outAt m c (ix2 r j) : EReal)
      = ∑ l : Fin 1024, (∑ e : Fin 4, ∑ p : Fin 1024, aX m e (ix2 r p) * aW1 m e (ix2 p l)) * aW2 m c (ix2 l j) := by
  obtain ⟨t, i, hi⟩ := xR_at r
  refine (congrArg (outAt m c) (hi j)).symm.trans ((outAt_spec m c t (ix2 i j : S256x1024.Idx)).trans
    ((outp_apply m c t.1 t.2.1 t.2.2 i j).trans (Finset.sum_congr rfl fun l _ => ?_)))
  refine congrArg₂ _ (Finset.sum_congr rfl fun e _ => (gp_apply m e t.1 t.2.1 t.2.2 i l).trans
    (Finset.sum_congr rfl fun p _ => congrArg₂ _ ?_ ?_)) ?_
  · exact (congrArg (xstg m e) (hi p)).trans (congrFun (xstg_eq m e) _)
  · exact congrFun (w1stg_eq m e) _
  · exact congrFun (w2stg_eq m c) _

/-! # The reference's blocks -/

/-- Place `p` of device `e`'s block. -/
def place (e : Fin 4) (p : Fin 1024) : Fin 4096 := ⟨e.val * 1024 + p.val, by omega⟩

/-- A sum over the whole contraction, device by device. -/
theorem sum_devs (f : Fin 4096 → EReal) :
    ∑ P : Fin 4096, f P = ∑ e : Fin 4, ∑ p : Fin 1024, f (place e p) := by
  rw [← Fintype.sum_prod_type', ← (finProdFinEquiv (m := 4) (n := 1024)).sum_comp]
  exact Finset.sum_congr rfl fun x _ => congrArg f (Fin.ext (by show x.2.val + 1024 * x.1.val = x.1.val * 1024 + x.2.val; omega))

/-- The product of the whole arrays, as the reference computes it. -/
def whole (x : FVec Ideal ⟨2, ![4096, 4096]⟩ .f32) (w1 : FVec Ideal ⟨2, ![4096, 1024]⟩ .f32) (w2 : FVec Ideal ⟨2, ![1024, 4096]⟩ .f32) :
    FVec Ideal ⟨2, ![4096, 4096]⟩ .f32 :=
  Host.dotGeneral (DotDims.plain 4096 1024 4096) none (Host.dotGeneral (DotDims.plain 4096 4096 1024) none x w1) w2

/-- **Each device's result is its block of the product of the whole arrays**, if its arguments are its blocks. -/
theorem outAt_block (x : FVec Ideal ⟨2, ![4096, 4096]⟩ .f32) (w1 : FVec Ideal ⟨2, ![4096, 1024]⟩ .f32) (w2 : FVec Ideal ⟨2, ![1024, 4096]⟩ .f32)
    (h0 : ∀ e : Dev nD, m ((e : Thread nD τ).loc main_arg0) = Layout.block ⟨2, ![4096, 1024]⟩ ⟨2, ![4096, 4096]⟩ 1 4 e x)
    (h1 : ∀ e : Dev nD, m ((e : Thread nD τ).loc main_arg1) = Layout.block ⟨2, ![1024, 1024]⟩ ⟨2, ![4096, 1024]⟩ 0 4 e w1)
    (h2 : ∀ e : Dev nD, m ((e : Thread nD τ).loc main_arg2) = Layout.block ⟨2, ![1024, 1024]⟩ ⟨2, ![1024, 4096]⟩ 1 4 e w2)
    (c : Dev nD) : outAt m c = Layout.block ⟨2, ![4096, 1024]⟩ ⟨2, ![4096, 4096]⟩ 1 4 c (whole x w1 w2) := by
  have hx : ∀ (e : Dev nD) (r : Fin 4096) (p : Fin 1024), aX m e (ix2 r p) = x (ix2 r (place e p)) := fun e r p =>
    (congrFun (h0 e) _).trans (congrArg x (eq_ix2 _))
  have hw1 : ∀ (e : Dev nD) (p l : Fin 1024), aW1 m e (ix2 p l) = w1 (ix2 (place e p) l) := fun e p l =>
    (congrFun (h1 e) _).trans (congrArg w1 (eq_ix2 _))
  have hw2 : ∀ (l j : Fin 1024), aW2 m c (ix2 l j) = w2 (ix2 l (place c j)) := fun l j =>
    (congrFun (h2 c) _).trans (congrArg w2 (eq_ix2 _))
  have key : ∀ (r : Fin 4096) (j : Fin 1024), outAt m c (ix2 r j) = whole x w1 w2 (ix2 r (place c j)) := fun r j => by
    refine (outAt_apply m c r j).trans (Eq.trans ?_ (StackMember.dotGeneral_plain_apply none _ w2 r _).symm)
    refine Finset.sum_congr (M := EReal) rfl fun l _ => congrArg₂ _ ?_ (hw2 l j)
    refine Eq.trans ?_ ((StackMember.dotGeneral_plain_apply none x w1 r l).trans (sum_devs _)).symm
    exact Finset.sum_congr rfl fun e _ => Finset.sum_congr rfl fun p _ => congrArg₂ _ (hx e r p) (hw1 e p l)
  funext i
  exact (congrArg (outAt m c) (eq_ix2 i)).trans ((key (i 0) (i 1)).trans (congrArg (whole x w1 w2) (eq_ix2 _).symm))

end Cert.Duplex
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel and its ideal reading are one program text, so at the machine's floats their bodies are the same, -/
theorem defs₀_eq : (Cert.Kernel.defs₀ (F := Bits)) = (Cert.KernelIdeal.defs₀ (F := Bits)) := by
  unfold Cert.Kernel.defs₀ Cert.KernelIdeal.defs₀
  refine congrArg (Defs.onTc (nD := Cert.Kernel.nD) (τ := Cert.Kernel.τ) (sig := Cert.Kernel.sig) (Val := Elt Bits)
    (Λ := Cert.Kernel.Λ₀)) ?_
  funext l x
  revert x
  match l with
  | 0 => intro x; obtain ⟨t, s⟩ := x; rfl

/-- and so are their tables of bodies. -/
theorem defs_eq : (Cert.Kernel.defs (F := Bits)) = (Cert.KernelIdeal.defs (F := Bits)) :=
  congrArg (Pipeline.defs (Cert.Kernel.pcfgs (F := Bits))) defs₀_eq

/-- The kernel ends, its arguments as they were and every counter at zero. -/
theorem frame_kernel : Cert.quiescent_Kernel := fun m ρ _ => by
  rw [defs_eq]
  exact (θ_run Cert.KernelIdeal.defs _ _).mono (fun _ h => h.2) (Cert.Duplex.run_args (F := Bits) m ρ)

theorem frame_ideal : Cert.quiescent_KernelIdeal := fun m ρ _ =>
  (θ_run Cert.KernelIdeal.defs _ _).mono (fun _ h => h.2) (Cert.Duplex.run_args (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Over the extended reals each device's result is its block of `(x @ W1) @ W2`. -/
theorem value : Cert.algebraic_KernelIdeal_ReferenceIdeal := fun m g m' g' _ hm =>
  ⟨Cert.Duplex.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono
      (fun _ h c => ⟨(h.1 c (3 : Fin 4)).trans ((Cert.Duplex.finalA_3 m g c).trans
        (Cert.Duplex.outAt_block m _ _ _ (fun e => (hm e).1) (fun e => (hm e).2.1) (fun e => (hm e).2.2) c)), h.2.1 c⟩)
      (Cert.Duplex.run_args (F := Ideal) m g),
    (θ_run Cert.ReferenceIdeal.defs _ _).mono (fun _ h => h 0) (Cert.ReferenceIdeal.Value.run m' g')⟩

theorem claim : Cert.Claim :=
  ⟨Cert.Kernel.Gen.facts, Cert.KernelIdeal.Gen.facts, Cert.ReferenceIdeal.Gen.facts,
    frame_kernel, frame_ideal, frame_reference, trivial, value⟩

end Cert.Proof

end
